-- ==== Defs.lean ====
def Pre_Kernel [hPre_sorted_batch : Cert.Pre_sorted_batch.Facts] (m : (ℓ : Loc Cert.Kernel.nD Cert.Kernel.τ Cert.Kernel.sig) → Buf (Elt Bits) ℓ) : Prop :=
  ∀ c : Dev Cert.Kernel.nD,
    (Cert.Pre_sorted_batch.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sorted_batch : Cert.Pre_sorted_batch.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_batch [hPre_sorted_batch : Cert.Pre_sorted_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_sorted_batch : Cert.Pre_sorted_batch.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_batch [hReferenceIdeal : Cert.ReferenceIdeal.Facts] [hPre_sorted_batch : Cert.Pre_sorted_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_batch : Cert.Pre_sorted_batch.Facts),
    quiescent_Kernel (hKernel := hKernel) (hPre_sorted_batch := hPre_sorted_batch)
    ∧ quiescent_KernelIdeal (hKernelIdeal := hKernelIdeal) (hPre_sorted_batch := hPre_sorted_batch)
    ∧ quiescent_ReferenceIdeal (hReferenceIdeal := hReferenceIdeal)
    ∧ quiescent_ReferenceIdeal_pre_sorted_batch (hReferenceIdeal := hReferenceIdeal) (hPre_sorted_batch := hPre_sorted_batch)
    ∧ preserves_Kernel_KernelIdeal
    ∧ algebraic_KernelIdeal_ReferenceIdeal (hKernelIdeal := hKernelIdeal) (hReferenceIdeal := hReferenceIdeal) (hPre_sorted_batch := hPre_sorted_batch)
-- ==== Pre_sorted_batch.lean ====
abbrev S50000x256 : Shape := ⟨2, ![50000, 256]⟩
abbrev S50000x3 : Shape := ⟨2, ![50000, 3]⟩
abbrev S50000 : Shape := ⟨1, ![50000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : FVec F S50000x3 .f32) (main_arg2 : IVec S50000 32) (main_arg3 : FVec F S256x512 .f32) (main_arg4 : FVec F S512 .f32) (main_arg5 : FVec F S512x1024 .f32) (main_arg6 : FVec F S1024 .f32) : IVec S_ 1 :=
  let main_c : IVec S_ 32 := constantI S_ 32 0#32
  let main_v0 : IVec S50000 32 := broadcastInDim S50000 ![] bcast_S_S50000 main_c
  let main_v1 : IVec S50000 1 := cmpi .sge main_arg2 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 512#32
  let main_v3 : IVec S50000 32 := broadcastInDim S50000 ![] bcast_S_S50000 main_c_1
  let main_v4 : IVec S50000 1 := cmpi .slt main_arg2 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  let main_v7 : IVec S49999 32 := (extractStridedSlice S49999 ![0] · slices_S50000_S49999_0) main_arg2
  let main_v8 : IVec S49999 32 := (extractStridedSlice S49999 ![1] · slices_S50000_S49999_1) main_arg2
  let main_v9 : IVec S49999 1 := cmpi .sle main_v7 main_v8
  let main_c_3 : IVec S_ 1 := constantI S_ 1 1#1
  let main_v10 : IVec S_ 1 := (fun x v => Host.reduce IntOp.andi x v reducesTo_S49999_S_d0 h_S_) main_v9 main_c_3
  let main_v11 : IVec S_ 1 := andi main_v6 main_v10
  main_v11
-- ==== Kernel.lean ====
abbrev S50000x256 : Shape := ⟨2, ![50000, 256]⟩
abbrev S50000x3 : Shape := ⟨2, ![50000, 3]⟩
abbrev S50000 : Shape := ⟨1, ![50000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S25 : Shape := ⟨1, ![25]⟩
abbrev S1x50000 : Shape := ⟨2, ![1, 50000]⟩
abbrev S513 : Shape := ⟨1, ![513]⟩
abbrev S513x1 : Shape := ⟨2, ![513, 1]⟩
abbrev S513x50000 : Shape := ⟨2, ![513, 50000]⟩
abbrev S_ : Shape := ⟨0, ![]⟩
abbrev S50000x1 : Shape := ⟨2, ![50000, 1]⟩
abbrev S1x512 : Shape := ⟨2, ![1, 512]⟩
abbrev S1x1024 : Shape := ⟨2, ![1, 1024]⟩
abbrev S2000x256 : Shape := ⟨2, ![2000, 256]⟩
abbrev S2000x1 : Shape := ⟨2, ![2000, 1]⟩
abbrev S2144x1024 : Shape := ⟨2, ![2144, 1024]⟩
abbrev S2000x512 : Shape := ⟨2, ![2000, 512]⟩
abbrev S2000x1024 : Shape := ⟨2, ![2000, 1024]⟩
abbrev S1 : Shape := ⟨1, ![1]⟩
abbrev S144x1024 : Shape := ⟨2, ![144, 1024]⟩
abbrev S144x1 : Shape := ⟨2, ![144, 1]⟩
abbrev S512x3 : Shape := ⟨2, ![512, 3]⟩

abbrev nBuf : Space → Nat
  | .hbm => 25
  | .vmem => 10
  | .smem => 3
  | _ => 0

abbrev bufTy : (tb : Table) → Fin (tcTables nBuf tb) → BufTy
  | .hbm, ⟨0, _⟩ => ⟨S50000x256, .f32⟩
  | .hbm, ⟨1, _⟩ => ⟨S50000x3, .f32⟩
  | .hbm, ⟨2, _⟩ => ⟨S50000, .i32⟩
  | .hbm, ⟨3, _⟩ => ⟨S256x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S25, .i32⟩
  | .hbm, ⟨8, _⟩ => ⟨S25, .i32⟩
  | .hbm, ⟨9, _⟩ => ⟨S1x50000, .i32⟩
  | .hbm, ⟨10, _⟩ => ⟨S513, .i32⟩
  | .hbm, ⟨11, _⟩ => ⟨S513x1, .i32⟩
  | .hbm, ⟨12, _⟩ => ⟨S513x50000, .i32⟩
  | .hbm, ⟨13, _⟩ => ⟨S513x50000, .i32⟩
  | .hbm, ⟨14, _⟩ => ⟨S513x50000, .i1⟩
  | .hbm, ⟨15, _⟩ => ⟨S513x50000, .i32⟩
  | .hbm, ⟨16, _⟩ => ⟨S_, .i32⟩
  | .hbm, ⟨17, _⟩ => ⟨S513, .i32⟩
  | .hbm, ⟨18, _⟩ => ⟨S50000x1, .i32⟩
  | .hbm, ⟨19, _⟩ => ⟨S1x512, .f32⟩
  | .hbm, ⟨20, _⟩ => ⟨S1x1024, .f32⟩
  | .hbm, ⟨21, _⟩ => ⟨S512x1024, .f32⟩
  | .hbm, ⟨22, _⟩ => ⟨S_, .f32⟩
  | .hbm, ⟨23, _⟩ => ⟨S512x3, .f32⟩
  | .hbm, ⟨24, _⟩ => ⟨S512, .i32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S256x512, .f32⟩
  | .local _ .vmem, ⟨5, _⟩ => ⟨S1x512, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S2144x1024, .f32⟩
  | .local _ .smem, ⟨0, _⟩ => ⟨S25, .i32⟩
  | .local _ .smem, ⟨1, _⟩ => ⟨S25, .i32⟩
  | .local _ .smem, ⟨2, _⟩ => ⟨S513, .i32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![25], ![false]⟩

def k0_off1 (i : grid0.Coords) : Fin 1 → Nat :=
  let arg0 : BitVec 32 := BitVec.ofNat 32 (i 0).val
  let v19 : Index := Scalar.indexCast arg0
  ![v19.toNat]
def k0_off2 (v20 : BitVec 32) : Fin 1 → Nat :=
  let v23 : Index := Scalar.indexCast v20
  ![v23.toNat]

def k0_off3 (v20 : BitVec 32) : Fin 1 → Nat :=
  let c1_i32 : BitVec 32 := 1#32
  let v27 : BitVec 32 := Scalar.addi v20 c1_i32
  let v28 : Index := Scalar.indexCast v27
  ![v28.toNat]
def k0_off4 (i : grid0.Coords) (v24 : BitVec 32) : Fin 2 → Nat :=
  let arg0 : BitVec 32 := BitVec.ofNat 32 (i 0).val
  let c2000_i32 : BitVec 32 := 2000#32
  let v0 : BitVec 32 := Scalar.muli arg0 c2000_i32
  let v25 : BitVec 32 := Scalar.maxsi v24 v0
  let v26 : BitVec 32 := Scalar.subi v25 v0
  let c0_i32_13 : BitVec 32 := 0#32
  let v34 : BitVec 1 := Scalar.cmpi .sgt v26 c0_i32_13
  let v35 : BitVec 32 := Scalar.extui v34
  let c0_i32_14 : BitVec 32 := 0#32
  let v36 : BitVec 1 := Scalar.cmpi .slt v26 c0_i32_14
  let v37 : BitVec 32 := Scalar.extui v36
  let v38 : BitVec 32 := Scalar.subi v35 v37
  let c8_i32 : BitVec 32 := 8#32
  let c0_i32_15 : BitVec 32 := 0#32
  let v39 : BitVec 1 := Scalar.cmpi .sgt c8_i32 c0_i32_15
  let v40 : BitVec 32 := Scalar.extui v39
  let c0_i32_16 : BitVec 32 := 0#32
  let v41 : BitVec 1 := Scalar.cmpi .slt c8_i32 c0_i32_16
  let v42 : BitVec 32 := Scalar.extui v41
  let v43 : BitVec 32 := Scalar.subi v40 v42
  let v44 : BitVec 1 := Scalar.cmpi .ne v38 v43
  let v45 : BitVec 32 := Scalar.remsi v26 c8_i32
  let c0_i32_17 : BitVec 32 := 0#32
  let v46 : BitVec 1 := Scalar.cmpi .ne v45 c0_i32_17
  let v47 : BitVec 1 := Scalar.andi v44 v46
  let v33 : BitVec 32 := Scalar.divsi v26 c8_i32
  let c1_i32_18 : BitVec 32 := 1#32
  let v48 : BitVec 32 := Scalar.subi v33 c1_i32_18
  let v49 : BitVec 32 := Scalar.select v47 v48 v33
  let c8_i32_19 : BitVec 32 := 8#32
  let v50 : BitVec 32 := Scalar.muli v49 c8_i32_19
  let v51 : Index := Scalar.indexCast v50
  let c0_20 : Index := 0#32
  ![v51.toNat, 0]

def k0_chk2 (i : grid0.Coords) (v24 : BitVec 32) : Prop :=
  (∀ a, (k0_off4 i v24) a + S144x1024.size a ≤ S2144x1024.size a)
theorem k0_off4_inb : ∀ (i : grid0.Coords) (v24 : BitVec 32) (k0_hw2 : k0_chk2 i v24), ∀ a, (k0_off4 i v24) a + S144x1024.size a ≤ S2144x1024.size a := fun i v24 k0_hw2 => k0_hw2

def k0_off5 (v20 : BitVec 32) : Fin 2 → Nat :=
  let v70 : Index := Scalar.indexCast v20
  let c0_23 : Index := 0#32
  ![v70.toNat, 0]

def k0_chk1 (v20 : BitVec 32) : Prop :=
  (∀ a, (k0_off2 v20) a + S1.size a ≤ S513.size a) ∧
  (∀ a, (k0_off3 v20) a + S1.size a ≤ S513.size a) ∧
  (∀ a, (k0_off5 v20) a + S1x1024.size a ≤ S512x1024.size a)
theorem k0_off2_inb : ∀ (v20 : BitVec 32) (k0_hw1 : k0_chk1 v20), ∀ a, (k0_off2 v20) a + S1.size a ≤ S513.size a := fun v20 k0_hw1 => k0_hw1.1
theorem k0_off3_inb : ∀ (v20 : BitVec 32) (k0_hw1 : k0_chk1 v20), ∀ a, (k0_off3 v20) a + S1.size a ≤ S513.size a := fun v20 k0_hw1 => k0_hw1.2.1
theorem k0_off5_inb : ∀ (v20 : BitVec 32) (k0_hw1 : k0_chk1 v20), ∀ a, (k0_off5 v20) a + S1x1024.size a ≤ S512x1024.size a := fun v20 k0_hw1 => k0_hw1.2.2

@[reducible] def k0_t1_loop (v20 : BitVec 32) (v22 : BitVec 32) : Scf.Loop 32 :=
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_34 : BitVec 32 := 1#32
  ⟨c0_i32_32, v99, c1_i32_34⟩

def k0_off6 (v20 : BitVec 32) (v22 : BitVec 32) (k0_t1 : Fin (k0_t1_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let v111 : Index := Scalar.indexCast v110
  ![v111.toNat]
def k0_off7 (v20 : BitVec 32) (v22 : BitVec 32) (k0_t1 : Fin (k0_t1_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let c1_i32_41 : BitVec 32 := 1#32
  let v115 : BitVec 32 := Scalar.addi v110 c1_i32_41
  let v116 : Index := Scalar.indexCast v115
  ![v116.toNat]
def k0_off8 (i : grid0.Coords) (v112 : BitVec 32) : Fin 2 → Nat :=
  let arg0 : BitVec 32 := BitVec.ofNat 32 (i 0).val
  let c2000_i32 : BitVec 32 := 2000#32
  let v0 : BitVec 32 := Scalar.muli arg0 c2000_i32
  let v113 : BitVec 32 := Scalar.maxsi v112 v0
  let v114 : BitVec 32 := Scalar.subi v113 v0
  let c0_i32_44 : BitVec 32 := 0#32
  let v122 : BitVec 1 := Scalar.cmpi .sgt v114 c0_i32_44
  let v123 : BitVec 32 := Scalar.extui v122
  let c0_i32_45 : BitVec 32 := 0#32
  let v124 : BitVec 1 := Scalar.cmpi .slt v114 c0_i32_45
  let v125 : BitVec 32 := Scalar.extui v124
  let v126 : BitVec 32 := Scalar.subi v123 v125
  let c8_i32_43 : BitVec 32 := 8#32
  let c0_i32_46 : BitVec 32 := 0#32
  let v127 : BitVec 1 := Scalar.cmpi .sgt c8_i32_43 c0_i32_46
  let v128 : BitVec 32 := Scalar.extui v127
  let c0_i32_47 : BitVec 32 := 0#32
  let v129 : BitVec 1 := Scalar.cmpi .slt c8_i32_43 c0_i32_47
  let v130 : BitVec 32 := Scalar.extui v129
  let v131 : BitVec 32 := Scalar.subi v128 v130
  let v132 : BitVec 1 := Scalar.cmpi .ne v126 v131
  let v133 : BitVec 32 := Scalar.remsi v114 c8_i32_43
  let c0_i32_48 : BitVec 32 := 0#32
  let v134 : BitVec 1 := Scalar.cmpi .ne v133 c0_i32_48
  let v135 : BitVec 1 := Scalar.andi v132 v134
  let v121 : BitVec 32 := Scalar.divsi v114 c8_i32_43
  let c1_i32_49 : BitVec 32 := 1#32
  let v136 : BitVec 32 := Scalar.subi v121 c1_i32_49
  let v137 : BitVec 32 := Scalar.select v135 v136 v121
  let c8_i32_50 : BitVec 32 := 8#32
  let v138 : BitVec 32 := Scalar.muli v137 c8_i32_50
  let v139 : Index := Scalar.indexCast v138
  let c0_51 : Index := 0#32
  ![v139.toNat, 0]

def k0_chk4 (i : grid0.Coords) (v112 : BitVec 32) : Prop :=
  (∀ a, (k0_off8 i v112) a + S144x1024.size a ≤ S2144x1024.size a)
theorem k0_off8_inb : ∀ (i : grid0.Coords) (v112 : BitVec 32) (k0_hw4 : k0_chk4 i v112), ∀ a, (k0_off8 i v112) a + S144x1024.size a ≤ S2144x1024.size a := fun i v112 k0_hw4 => k0_hw4

def k0_off9 (v20 : BitVec 32) (v22 : BitVec 32) (k0_t1 : Fin (k0_t1_loop v20 v22).trips) : Fin 2 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let v158 : Index := Scalar.indexCast v110
  let c0_55 : Index := 0#32
  ![v158.toNat, 0]
def k0_off10 (v20 : BitVec 32) (v22 : BitVec 32) (k0_t1 : Fin (k0_t1_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let v162 : Index := Scalar.indexCast v161
  ![v162.toNat]
def k0_off11 (v20 : BitVec 32) (v22 : BitVec 32) (k0_t1 : Fin (k0_t1_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let c1_i32_57 : BitVec 32 := 1#32
  let v166 : BitVec 32 := Scalar.addi v161 c1_i32_57
  let v167 : Index := Scalar.indexCast v166
  ![v167.toNat]
def k0_off12 (i : grid0.Coords) (v163 : BitVec 32) : Fin 2 → Nat :=
  let arg0 : BitVec 32 := BitVec.ofNat 32 (i 0).val
  let c2000_i32 : BitVec 32 := 2000#32
  let v0 : BitVec 32 := Scalar.muli arg0 c2000_i32
  let v164 : BitVec 32 := Scalar.maxsi v163 v0
  let v165 : BitVec 32 := Scalar.subi v164 v0
  let c0_i32_60 : BitVec 32 := 0#32
  let v173 : BitVec 1 := Scalar.cmpi .sgt v165 c0_i32_60
  let v174 : BitVec 32 := Scalar.extui v173
  let c0_i32_61 : BitVec 32 := 0#32
  let v175 : BitVec 1 := Scalar.cmpi .slt v165 c0_i32_61
  let v176 : BitVec 32 := Scalar.extui v175
  let v177 : BitVec 32 := Scalar.subi v174 v176
  let c8_i32_59 : BitVec 32 := 8#32
  let c0_i32_62 : BitVec 32 := 0#32
  let v178 : BitVec 1 := Scalar.cmpi .sgt c8_i32_59 c0_i32_62
  let v179 : BitVec 32 := Scalar.extui v178
  let c0_i32_63 : BitVec 32 := 0#32
  let v180 : BitVec 1 := Scalar.cmpi .slt c8_i32_59 c0_i32_63
  let v181 : BitVec 32 := Scalar.extui v180
  let v182 : BitVec 32 := Scalar.subi v179 v181
  let v183 : BitVec 1 := Scalar.cmpi .ne v177 v182
  let v184 : BitVec 32 := Scalar.remsi v165 c8_i32_59
  let c0_i32_64 : BitVec 32 := 0#32
  let v185 : BitVec 1 := Scalar.cmpi .ne v184 c0_i32_64
  let v186 : BitVec 1 := Scalar.andi v183 v185
  let v172 : BitVec 32 := Scalar.divsi v165 c8_i32_59
  let c1_i32_65 : BitVec 32 := 1#32
  let v187 : BitVec 32 := Scalar.subi v172 c1_i32_65
  let v188 : BitVec 32 := Scalar.select v186 v187 v172
  let c8_i32_66 : BitVec 32 := 8#32
  let v189 : BitVec 32 := Scalar.muli v188 c8_i32_66
  let v190 : Index := Scalar.indexCast v189
  let c0_67 : Index := 0#32
  ![v190.toNat, 0]

def k0_chk5 (i : grid0.Coords) (v163 : BitVec 32) : Prop :=
  (∀ a, (k0_off12 i v163) a + S144x1024.size a ≤ S2144x1024.size a)
theorem k0_off12_inb : ∀ (i : grid0.Coords) (v163 : BitVec 32) (k0_hw5 : k0_chk5 i v163), ∀ a, (k0_off12 i v163) a + S144x1024.size a ≤ S2144x1024.size a := fun i v163 k0_hw5 => k0_hw5

def k0_off13 (v20 : BitVec 32) (v22 : BitVec 32) (k0_t1 : Fin (k0_t1_loop v20 v22).trips) : Fin 2 → Nat :=
  let c1_i32_39 : BitVec 32 := 1#32
  let v108 : BitVec 32 := Scalar.addi v20 c1_i32_39
  let c2_i32_40 : BitVec 32 := 2#32
  let c0_i32_32 : BitVec 32 := 0#32
  let c1_i32_34 : BitVec 32 := 1#32
  let arg12 : BitVec 32 := Scf.iv c0_i32_32 c1_i32_34 k0_t1
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let v209 : Index := Scalar.indexCast v161
  let c0_71 : Index := 0#32
  ![v209.toNat, 0]
@[reducible] def k0_t2_loop (v20 : BitVec 32) (v22 : BitVec 32) : Scf.Loop 32 :=
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let v96 : BitVec 32 := Scalar.addi c0_i32_32 v95
  let c1_i32_35 : BitVec 32 := 1#32
  ⟨v99, v96, c1_i32_35⟩
def k0_off14 (v20 : BitVec 32) (v22 : BitVec 32) (k0_t2 : Fin (k0_t2_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let v111 : Index := Scalar.indexCast v110
  ![v111.toNat]
def k0_off15 (v20 : BitVec 32) (v22 : BitVec 32) (k0_t2 : Fin (k0_t2_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let c1_i32_41 : BitVec 32 := 1#32
  let v115 : BitVec 32 := Scalar.addi v110 c1_i32_41
  let v116 : Index := Scalar.indexCast v115
  ![v116.toNat]
def k0_off16 (i : grid0.Coords) (v112 : BitVec 32) : Fin 2 → Nat :=
  let arg0 : BitVec 32 := BitVec.ofNat 32 (i 0).val
  let c2000_i32 : BitVec 32 := 2000#32
  let v0 : BitVec 32 := Scalar.muli arg0 c2000_i32
  let v113 : BitVec 32 := Scalar.maxsi v112 v0
  let v114 : BitVec 32 := Scalar.subi v113 v0
  let c0_i32_44 : BitVec 32 := 0#32
  let v122 : BitVec 1 := Scalar.cmpi .sgt v114 c0_i32_44
  let v123 : BitVec 32 := Scalar.extui v122
  let c0_i32_45 : BitVec 32 := 0#32
  let v124 : BitVec 1 := Scalar.cmpi .slt v114 c0_i32_45
  let v125 : BitVec 32 := Scalar.extui v124
  let v126 : BitVec 32 := Scalar.subi v123 v125
  let c8_i32_43 : BitVec 32 := 8#32
  let c0_i32_46 : BitVec 32 := 0#32
  let v127 : BitVec 1 := Scalar.cmpi .sgt c8_i32_43 c0_i32_46
  let v128 : BitVec 32 := Scalar.extui v127
  let c0_i32_47 : BitVec 32 := 0#32
  let v129 : BitVec 1 := Scalar.cmpi .slt c8_i32_43 c0_i32_47
  let v130 : BitVec 32 := Scalar.extui v129
  let v131 : BitVec 32 := Scalar.subi v128 v130
  let v132 : BitVec 1 := Scalar.cmpi .ne v126 v131
  let v133 : BitVec 32 := Scalar.remsi v114 c8_i32_43
  let c0_i32_48 : BitVec 32 := 0#32
  let v134 : BitVec 1 := Scalar.cmpi .ne v133 c0_i32_48
  let v135 : BitVec 1 := Scalar.andi v132 v134
  let v121 : BitVec 32 := Scalar.divsi v114 c8_i32_43
  let c1_i32_49 : BitVec 32 := 1#32
  let v136 : BitVec 32 := Scalar.subi v121 c1_i32_49
  let v137 : BitVec 32 := Scalar.select v135 v136 v121
  let c8_i32_50 : BitVec 32 := 8#32
  let v138 : BitVec 32 := Scalar.muli v137 c8_i32_50
  let v139 : Index := Scalar.indexCast v138
  let c0_51 : Index := 0#32
  ![v139.toNat, 0]

def k0_chk6 (i : grid0.Coords) (v112 : BitVec 32) : Prop :=
  (∀ a, (k0_off16 i v112) a + S144x1024.size a ≤ S2144x1024.size a)
theorem k0_off16_inb : ∀ (i : grid0.Coords) (v112 : BitVec 32) (k0_hw6 : k0_chk6 i v112), ∀ a, (k0_off16 i v112) a + S144x1024.size a ≤ S2144x1024.size a := fun i v112 k0_hw6 => k0_hw6

def k0_off17 (v20 : BitVec 32) (v22 : BitVec 32) (k0_t2 : Fin (k0_t2_loop v20 v22).trips) : Fin 2 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let v158 : Index := Scalar.indexCast v110
  let c0_55 : Index := 0#32
  ![v158.toNat, 0]
def k0_off18 (v20 : BitVec 32) (v22 : BitVec 32) (k0_t2 : Fin (k0_t2_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let v162 : Index := Scalar.indexCast v161
  ![v162.toNat]
def k0_off19 (v20 : BitVec 32) (v22 : BitVec 32) (k0_t2 : Fin (k0_t2_loop v20 v22).trips) : Fin 1 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let c1_i32_57 : BitVec 32 := 1#32
  let v166 : BitVec 32 := Scalar.addi v161 c1_i32_57
  let v167 : Index := Scalar.indexCast v166
  ![v167.toNat]
def k0_off20 (i : grid0.Coords) (v163 : BitVec 32) : Fin 2 → Nat :=
  let arg0 : BitVec 32 := BitVec.ofNat 32 (i 0).val
  let c2000_i32 : BitVec 32 := 2000#32
  let v0 : BitVec 32 := Scalar.muli arg0 c2000_i32
  let v164 : BitVec 32 := Scalar.maxsi v163 v0
  let v165 : BitVec 32 := Scalar.subi v164 v0
  let c0_i32_60 : BitVec 32 := 0#32
  let v173 : BitVec 1 := Scalar.cmpi .sgt v165 c0_i32_60
  let v174 : BitVec 32 := Scalar.extui v173
  let c0_i32_61 : BitVec 32 := 0#32
  let v175 : BitVec 1 := Scalar.cmpi .slt v165 c0_i32_61
  let v176 : BitVec 32 := Scalar.extui v175
  let v177 : BitVec 32 := Scalar.subi v174 v176
  let c8_i32_59 : BitVec 32 := 8#32
  let c0_i32_62 : BitVec 32 := 0#32
  let v178 : BitVec 1 := Scalar.cmpi .sgt c8_i32_59 c0_i32_62
  let v179 : BitVec 32 := Scalar.extui v178
  let c0_i32_63 : BitVec 32 := 0#32
  let v180 : BitVec 1 := Scalar.cmpi .slt c8_i32_59 c0_i32_63
  let v181 : BitVec 32 := Scalar.extui v180
  let v182 : BitVec 32 := Scalar.subi v179 v181
  let v183 : BitVec 1 := Scalar.cmpi .ne v177 v182
  let v184 : BitVec 32 := Scalar.remsi v165 c8_i32_59
  let c0_i32_64 : BitVec 32 := 0#32
  let v185 : BitVec 1 := Scalar.cmpi .ne v184 c0_i32_64
  let v186 : BitVec 1 := Scalar.andi v183 v185
  let v172 : BitVec 32 := Scalar.divsi v165 c8_i32_59
  let c1_i32_65 : BitVec 32 := 1#32
  let v187 : BitVec 32 := Scalar.subi v172 c1_i32_65
  let v188 : BitVec 32 := Scalar.select v186 v187 v172
  let c8_i32_66 : BitVec 32 := 8#32
  let v189 : BitVec 32 := Scalar.muli v188 c8_i32_66
  let v190 : Index := Scalar.indexCast v189
  let c0_67 : Index := 0#32
  ![v190.toNat, 0]

def k0_chk7 (i : grid0.Coords) (v163 : BitVec 32) : Prop :=
  (∀ a, (k0_off20 i v163) a + S144x1024.size a ≤ S2144x1024.size a)
theorem k0_off20_inb : ∀ (i : grid0.Coords) (v163 : BitVec 32) (k0_hw7 : k0_chk7 i v163), ∀ a, (k0_off20 i v163) a + S144x1024.size a ≤ S2144x1024.size a := fun i v163 k0_hw7 => k0_hw7

def k0_off21 (v20 : BitVec 32) (v22 : BitVec 32) (k0_t2 : Fin (k0_t2_loop v20 v22).trips) : Fin 2 → Nat :=
  let c1_i32_39 : BitVec 32 := 1#32
  let v108 : BitVec 32 := Scalar.addi v20 c1_i32_39
  let c2_i32_40 : BitVec 32 := 2#32
  let c0_i32_32 : BitVec 32 := 0#32
  let v76 : BitVec 32 := Scalar.subi v22 v20
  let c1_i32_25 : BitVec 32 := 1#32
  let v77 : BitVec 32 := Scalar.addi v76 c1_i32_25
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c2_i32 : BitVec 32 := 2#32
  let c0_i32_28 : BitVec 32 := 0#32
  let v84 : BitVec 1 := Scalar.cmpi .sgt c2_i32 c0_i32_28
  let v85 : BitVec 32 := Scalar.extui v84
  let c0_i32_29 : BitVec 32 := 0#32
  let v86 : BitVec 1 := Scalar.cmpi .slt c2_i32 c0_i32_29
  let v87 : BitVec 32 := Scalar.extui v86
  let v88 : BitVec 32 := Scalar.subi v85 v87
  let v89 : BitVec 1 := Scalar.cmpi .ne v83 v88
  let v90 : BitVec 32 := Scalar.remsi v77 c2_i32
  let c0_i32_30 : BitVec 32 := 0#32
  let v91 : BitVec 1 := Scalar.cmpi .ne v90 c0_i32_30
  let v92 : BitVec 1 := Scalar.andi v89 v91
  let v78 : BitVec 32 := Scalar.divsi v77 c2_i32
  let c1_i32_31 : BitVec 32 := 1#32
  let v93 : BitVec 32 := Scalar.subi v78 c1_i32_31
  let v94 : BitVec 32 := Scalar.select v92 v93 v78
  let v95 : BitVec 32 := Scalar.subi v94 c0_i32_32
  let c1_i32_33 : BitVec 32 := 1#32
  let v97 : BitVec 32 := Scalar.divsi v95 c1_i32_33
  let v98 : BitVec 32 := Scalar.muli v97 c1_i32_33
  let v99 : BitVec 32 := Scalar.addi c0_i32_32 v98
  let c1_i32_35 : BitVec 32 := 1#32
  let arg12 : BitVec 32 := Scf.iv v99 c1_i32_35 k0_t2
  let v109 : BitVec 32 := Scalar.muli c2_i32_40 arg12
  let v110 : BitVec 32 := Scalar.addi v108 v109
  let c1_i32_56 : BitVec 32 := 1#32
  let v160 : BitVec 32 := Scalar.addi v110 c1_i32_56
  let v161 : BitVec 32 := Scalar.minsi v160 v22
  let v209 : Index := Scalar.indexCast v161
  let c0_71 : Index := 0#32
  ![v209.toNat, 0]

def k0_chk3 (v20 : BitVec 32) (v22 : BitVec 32) : Prop :=
  ((k0_t1_loop v20 v22).OK) ∧
  (∀ k0_t1 : Fin (k0_t1_loop v20 v22).trips, ∀ a, (k0_off6 v20 v22 k0_t1) a + S1.size a ≤ S513.size a) ∧
  (∀ k0_t1 : Fin (k0_t1_loop v20 v22).trips, ∀ a, (k0_off7 v20 v22 k0_t1) a + S1.size a ≤ S513.size a) ∧
  (∀ k0_t1 : Fin (k0_t1_loop v20 v22).trips, ∀ a, (k0_off9 v20 v22 k0_t1) a + S1x1024.size a ≤ S512x1024.size a) ∧
  (∀ k0_t1 : Fin (k0_t1_loop v20 v22).trips, ∀ a, (k0_off10 v20 v22 k0_t1) a + S1.size a ≤ S513.size a) ∧
  (∀ k0_t1 : Fin (k0_t1_loop v20 v22).trips, ∀ a, (k0_off11 v20 v22 k0_t1) a + S1.size a ≤ S513.size a) ∧
  (∀ k0_t1 : Fin (k0_t1_loop v20 v22).trips, ∀ a, (k0_off13 v20 v22 k0_t1) a + S1x1024.size a ≤ S512x1024.size a) ∧
  ((k0_t2_loop v20 v22).OK) ∧
  (∀ k0_t2 : Fin (k0_t2_loop v20 v22).trips, ∀ a, (k0_off14 v20 v22 k0_t2) a + S1.size a ≤ S513.size a) ∧
  (∀ k0_t2 : Fin (k0_t2_loop v20 v22).trips, ∀ a, (k0_off15 v20 v22 k0_t2) a + S1.size a ≤ S513.size a) ∧
  (∀ k0_t2 : Fin (k0_t2_loop v20 v22).trips, ∀ a, (k0_off17 v20 v22 k0_t2) a + S1x1024.size a ≤ S512x1024.size a) ∧
  (∀ k0_t2 : Fin (k0_t2_loop v20 v22).trips, ∀ a, (k0_off18 v20 v22 k0_t2) a + S1.size a ≤ S513.size a) ∧
  (∀ k0_t2 : Fin (k0_t2_loop v20 v22).trips, ∀ a, (k0_off19 v20 v22 k0_t2) a + S1.size a ≤ S513.size a) ∧
  (∀ k0_t2 : Fin (k0_t2_loop v20 v22).trips, ∀ a, (k0_off21 v20 v22 k0_t2) a + S1x1024.size a ≤ S512x1024.size a)
theorem k0_t1_ok : ∀ (v20 : BitVec 32) (v22 : BitVec 32) (k0_hw3 : k0_chk3 v20 v22), (k0_t1_loop v20 v22).OK := fun v20 v22 k0_hw3 => k0_hw3.1
theorem k0_off6_inb : ∀ (v20 : BitVec 32) (v22 : BitVec 32) (k0_hw3 : k0_chk3 v20 v22) (k0_t1 : Fin (k0_t1_loop v20 v22).trips), ∀ a, (k0_off6 v20 v22 k0_t1) a + S1.size a ≤ S513.size a := fun v20 v22 k0_hw3 k0_t1 => k0_hw3.2.1 k0_t1
theorem k0_off7_inb : ∀ (v20 : BitVec 32) (v22 : BitVec 32) (k0_hw3 : k0_chk3 v20 v22) (k0_t1 : Fin (k0_t1_loop v20 v22).trips), ∀ a, (k0_off7 v20 v22 k0_t1) a + S1.size a ≤ S513.size a := fun v20 v22 k0_hw3 k0_t1 => k0_hw3.2.2.1 k0_t1
theorem k0_off9_inb : ∀ (v20 : BitVec 32) (v22 : BitVec 32) (k0_hw3 : k0_chk3 v20 v22) (k0_t1 : Fin (k0_t1_loop v20 v22).trips), ∀ a, (k0_off9 v20 v22 k0_t1) a + S1x1024.size a ≤ S512x1024.size a := fun v20 v22 k0_hw3 k0_t1 => k0_hw3.2.2.2.1 k0_t1
theorem k0_off10_inb : ∀ (v20 : BitVec 32) (v22 : BitVec 32) (k0_hw3 : k0_chk3 v20 v22) (k0_t1 : Fin (k0_t1_loop v20 v22).trips), ∀ a, (k0_off10 v20 v22 k0_t1) a + S1.size a ≤ S513.size a := fun v20 v22 k0_hw3 k0_t1 => k0_hw3.2.2.2.2.1 k0_t1
theorem k0_off11_inb : ∀ (v20 : BitVec 32) (v22 : BitVec 32) (k0_hw3 : k0_chk3 v20 v22) (k0_t1 : Fin (k0_t1_loop v20 v22).trips), ∀ a, (k0_off11 v20 v22 k0_t1) a + S1.size a ≤ S513.size a := fun v20 v22 k0_hw3 k0_t1 => k0_hw3.2.2.2.2.2.1 k0_t1
theorem k0_off13_inb : ∀ (v20 : BitVec 32) (v22 : BitVec 32) (k0_hw3 : k0_chk3 v20 v22) (k0_t1 : Fin (k0_t1_loop v20 v22).trips), ∀ a, (k0_off13 v20 v22 k0_t1) a + S1x1024.size a ≤ S512x1024.size a := fun v20 v22 k0_hw3 k0_t1 => k0_hw3.2.2.2.2.2.2.1 k0_t1
theorem k0_t2_ok : ∀ (v20 : BitVec 32) (v22 : BitVec 32) (k0_hw3 : k0_chk3 v20 v22), (k0_t2_loop v20 v22).OK := fun v20 v22 k0_hw3 => k0_hw3.2.2.2.2.2.2.2.1
theorem k0_off14_inb : ∀ (v20 : BitVec 32) (v22 : BitVec 32) (k0_hw3 : k0_chk3 v20 v22) (k0_t2 : Fin (k0_t2_loop v20 v22).trips), ∀ a, (k0_off14 v20 v22 k0_t2) a + S1.size a ≤ S513.size a := fun v20 v22 k0_hw3 k0_t2 => k0_hw3.2.2.2.2.2.2.2.2.1 k0_t2
theorem k0_off15_inb : ∀ (v20 : BitVec 32) (v22 : BitVec 32) (k0_hw3 : k0_chk3 v20 v22) (k0_t2 : Fin (k0_t2_loop v20 v22).trips), ∀ a, (k0_off15 v20 v22 k0_t2) a + S1.size a ≤ S513.size a := fun v20 v22 k0_hw3 k0_t2 => k0_hw3.2.2.2.2.2.2.2.2.2.1 k0_t2
theorem k0_off17_inb : ∀ (v20 : BitVec 32) (v22 : BitVec 32) (k0_hw3 : k0_chk3 v20 v22) (k0_t2 : Fin (k0_t2_loop v20 v22).trips), ∀ a, (k0_off17 v20 v22 k0_t2) a + S1x1024.size a ≤ S512x1024.size a := fun v20 v22 k0_hw3 k0_t2 => k0_hw3.2.2.2.2.2.2.2.2.2.2.1 k0_t2
theorem k0_off18_inb : ∀ (v20 : BitVec 32) (v22 : BitVec 32) (k0_hw3 : k0_chk3 v20 v22) (k0_t2 : Fin (k0_t2_loop v20 v22).trips), ∀ a, (k0_off18 v20 v22 k0_t2) a + S1.size a ≤ S513.size a := fun v20 v22 k0_hw3 k0_t2 => k0_hw3.2.2.2.2.2.2.2.2.2.2.2.1 k0_t2
theorem k0_off19_inb : ∀ (v20 : BitVec 32) (v22 : BitVec 32) (k0_hw3 : k0_chk3 v20 v22) (k0_t2 : Fin (k0_t2_loop v20 v22).trips), ∀ a, (k0_off19 v20 v22 k0_t2) a + S1.size a ≤ S513.size a := fun v20 v22 k0_hw3 k0_t2 => k0_hw3.2.2.2.2.2.2.2.2.2.2.2.2.1 k0_t2
theorem k0_off21_inb : ∀ (v20 : BitVec 32) (v22 : BitVec 32) (k0_hw3 : k0_chk3 v20 v22) (k0_t2 : Fin (k0_t2_loop v20 v22).trips), ∀ a, (k0_off21 v20 v22 k0_t2) a + S1x1024.size a ≤ S512x1024.size a := fun v20 v22 k0_hw3 k0_t2 => k0_hw3.2.2.2.2.2.2.2.2.2.2.2.2.2 k0_t2

@[reducible] def k0_t3_loop (v20 : BitVec 32) (v22 : BitVec 32) : Scf.Loop 32 :=
  let c1_i32_43 : BitVec 32 := 1#32
  let v111 : BitVec 32 := Scalar.addi v22 c1_i32_43
  let v112 : BitVec 32 := Scalar.subi v111 v20
  let c1_i32_45 : BitVec 32 := 1#32
  let v114 : BitVec 32 := Scalar.divsi v112 c1_i32_45
  let v115 : BitVec 32 := Scalar.muli v114 c1_i32_45
  let v116 : BitVec 32 := Scalar.addi v20 v115
  let c1_i32_46 : BitVec 32 := 1#32
  ⟨v20, v116, c1_i32_46⟩
def k0_cond2 (v101 : BitVec 32) : BitVec 1 :=
  let c0_i32_36 : BitVec 32 := 0#32
  let v102 : BitVec 1 := Scalar.cmpi .sgt v101 c0_i32_36
  let v103 : BitVec 32 := Scalar.extui v102
  let c0_i32_37 : BitVec 32 := 0#32
  let v104 : BitVec 1 := Scalar.cmpi .ne v103 c0_i32_37
  v104

def k0_off22 (v20 : BitVec 32) (v22 : BitVec 32) (k0_t3 : Fin (k0_t3_loop v20 v22).trips) : Fin 2 → Nat :=
  let c1_i32_46 : BitVec 32 := 1#32
  let arg12 : BitVec 32 := Scf.iv v20 c1_i32_46 k0_t3
  let v125 : Index := Scalar.indexCast arg12
  let c0_50 : Index := 0#32
  ![v125.toNat, 0]
@[reducible] def k0_t4_loop (v20 : BitVec 32) (v22 : BitVec 32) : Scf.Loop 32 :=
  let c1_i32_43 : BitVec 32 := 1#32
  let v111 : BitVec 32 := Scalar.addi v22 c1_i32_43
  let v112 : BitVec 32 := Scalar.subi v111 v20
  let c1_i32_45 : BitVec 32 := 1#32
  let v114 : BitVec 32 := Scalar.divsi v112 c1_i32_45
  let v115 : BitVec 32 := Scalar.muli v114 c1_i32_45
  let v116 : BitVec 32 := Scalar.addi v20 v115
  let v113 : BitVec 32 := Scalar.addi v20 v112
  let c1_i32_47 : BitVec 32 := 1#32
  ⟨v116, v113, c1_i32_47⟩
def k0_off23 (v20 : BitVec 32) (v22 : BitVec 32) (k0_t4 : Fin (k0_t4_loop v20 v22).trips) : Fin 2 → Nat :=
  let c1_i32_43 : BitVec 32 := 1#32
  let v111 : BitVec 32 := Scalar.addi v22 c1_i32_43
  let v112 : BitVec 32 := Scalar.subi v111 v20
  let c1_i32_45 : BitVec 32 := 1#32
  let v114 : BitVec 32 := Scalar.divsi v112 c1_i32_45
  let v115 : BitVec 32 := Scalar.muli v114 c1_i32_45
  let v116 : BitVec 32 := Scalar.addi v20 v115
  let c1_i32_47 : BitVec 32 := 1#32
  let arg12 : BitVec 32 := Scf.iv v116 c1_i32_47 k0_t4
  let v125 : Index := Scalar.indexCast arg12
  let c0_50 : Index := 0#32
  ![v125.toNat, 0]

def k0_chk8 (v20 : BitVec 32) (v22 : BitVec 32) (v101 : BitVec 32) : Prop :=
  (∀ (k0_h2 : k0_cond2 v101 = 1#1), (k0_t3_loop v20 v22).OK) ∧
  (∀ k0_t3 : Fin (k0_t3_loop v20 v22).trips, ∀ (k0_h2 : k0_cond2 v101 = 1#1), ∀ a, (k0_off22 v20 v22 k0_t3) a + S1x1024.size a ≤ S512x1024.size a) ∧
  (∀ (k0_h2 : k0_cond2 v101 = 1#1), (k0_t4_loop v20 v22).OK) ∧
  (∀ k0_t4 : Fin (k0_t4_loop v20 v22).trips, ∀ (k0_h2 : k0_cond2 v101 = 1#1), ∀ a, (k0_off23 v20 v22 k0_t4) a + S1x1024.size a ≤ S512x1024.size a)
theorem k0_t3_ok : ∀ (v20 : BitVec 32) (v22 : BitVec 32) (v101 : BitVec 32) (k0_hw8 : k0_chk8 v20 v22 v101), ∀ (k0_h2 : k0_cond2 v101 = 1#1), (k0_t3_loop v20 v22).OK := fun v20 v22 v101 k0_hw8 k0_h2 => k0_hw8.1 k0_h2
theorem k0_off22_inb : ∀ (v20 : BitVec 32) (v22 : BitVec 32) (v101 : BitVec 32) (k0_hw8 : k0_chk8 v20 v22 v101) (k0_t3 : Fin (k0_t3_loop v20 v22).trips), ∀ (k0_h2 : k0_cond2 v101 = 1#1), ∀ a, (k0_off22 v20 v22 k0_t3) a + S1x1024.size a ≤ S512x1024.size a := fun v20 v22 v101 k0_hw8 k0_t3 k0_h2 => k0_hw8.2.1 k0_t3 k0_h2
theorem k0_t4_ok : ∀ (v20 : BitVec 32) (v22 : BitVec 32) (v101 : BitVec 32) (k0_hw8 : k0_chk8 v20 v22 v101), ∀ (k0_h2 : k0_cond2 v101 = 1#1), (k0_t4_loop v20 v22).OK := fun v20 v22 v101 k0_hw8 k0_h2 => k0_hw8.2.2.1 k0_h2
theorem k0_off23_inb : ∀ (v20 : BitVec 32) (v22 : BitVec 32) (v101 : BitVec 32) (k0_hw8 : k0_chk8 v20 v22 v101) (k0_t4 : Fin (k0_t4_loop v20 v22).trips), ∀ (k0_h2 : k0_cond2 v101 = 1#1), ∀ a, (k0_off23 v20 v22 k0_t4) a + S1x1024.size a ≤ S512x1024.size a := fun v20 v22 v101 k0_hw8 k0_t4 k0_h2 => k0_hw8.2.2.2 k0_t4 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S25 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S25 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S513 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S50000x256 : Shape := ⟨2, ![50000, 256]⟩
abbrev S50000x3 : Shape := ⟨2, ![50000, 3]⟩
abbrev S50000 : Shape := ⟨1, ![50000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S50000x512 : Shape := ⟨2, ![50000, 512]⟩
abbrev S1x512 : Shape := ⟨2, ![1, 512]⟩
abbrev S_ : Shape := ⟨0, ![]⟩
abbrev S50000x1024 : Shape := ⟨2, ![50000, 1024]⟩
abbrev S1x1024 : Shape := ⟨2, ![1, 1024]⟩
abbrev S50000x1 : Shape := ⟨2, ![50000, 1]⟩
abbrev S50000x512x1 : Shape := ⟨3, ![50000, 512, 1]⟩
abbrev S50000x1x1024 : Shape := ⟨3, ![50000, 1, 1024]⟩
abbrev S50000x512x1024 : Shape := ⟨3, ![50000, 512, 1024]⟩
abbrev S512x3 : Shape := ⟨2, ![512, 3]⟩

abbrev nBuf : Space → Nat
  | .hbm => 48
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x3, .f32⟩
  | .hbm, ⟨2, _⟩ => ⟨S50000, .i32⟩
  | .hbm, ⟨3, _⟩ => ⟨S256x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S50000x512, .f32⟩
  | .hbm, ⟨8, _⟩ => ⟨S1x512, .f32⟩
  | .hbm, ⟨9, _⟩ => ⟨S50000x512, .f32⟩
  | .hbm, ⟨10, _⟩ => ⟨S50000x512, .f32⟩
  | .hbm, ⟨11, _⟩ => ⟨S_, .f32⟩
  | .hbm, ⟨12, _⟩ => ⟨S50000x512, .f32⟩
  | .hbm, ⟨13, _⟩ => ⟨S50000x512, .i1⟩
  | .hbm, ⟨14, _⟩ => ⟨S_, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S50000x1024, .f32⟩
  | .hbm, ⟨19, _⟩ => ⟨S1x1024, .f32⟩
  | .hbm, ⟨20, _⟩ => ⟨S50000x1024, .f32⟩
  | .hbm, ⟨21, _⟩ => ⟨S50000x1024, .f32⟩
  | .hbm, ⟨22, _⟩ => ⟨S_, .f32⟩
  | .hbm, ⟨23, _⟩ => ⟨S50000x1024, .f32⟩
  | .hbm, ⟨24, _⟩ => ⟨S50000x1024, .i1⟩
  | .hbm, ⟨25, _⟩ => ⟨S_, .f32⟩
  | .hbm, ⟨26, _⟩ => ⟨S50000x1024, .f32⟩
  | .hbm, ⟨27, _⟩ => ⟨S50000x1024, .f32⟩
  | .hbm, ⟨28, _⟩ => ⟨S50000x1024, .f32⟩
  | .hbm, ⟨29, _⟩ => ⟨S50000x1, .i32⟩
  | .hbm, ⟨30, _⟩ => ⟨S512, .i32⟩
  | .hbm, ⟨31, _⟩ => ⟨S1x512, .i32⟩
  | .hbm, ⟨32, _⟩ => ⟨S50000x512, .i32⟩
  | .hbm, ⟨33, _⟩ => ⟨S50000x512, .i32⟩
  | .hbm, ⟨34, _⟩ => ⟨S50000x512, .i1⟩
  | .hbm, ⟨35, _⟩ => ⟨S50000x512x1, .i1⟩
  | .hbm, ⟨36, _⟩ => ⟨S50000x1x1024, .f32⟩
  | .hbm, ⟨37, _⟩ => ⟨S_, .f32⟩
  | .hbm, ⟨38, _⟩ => ⟨S_, .f32⟩
  | .hbm, ⟨39, _⟩ => ⟨S50000x512x1024, .i1⟩
  | .hbm, ⟨40, _⟩ => ⟨S50000x512x1024, .f32⟩
  | .hbm, ⟨41, _⟩ => ⟨S50000x512x1024, .f32⟩
  | .hbm, ⟨42, _⟩ => ⟨S50000x512x1024, .f32⟩
  | .hbm, ⟨43, _⟩ => ⟨S_, .f32⟩
  | .hbm, ⟨44, _⟩ => ⟨S512x1024, .f32⟩
  | .hbm, ⟨45, _⟩ => ⟨S_, .f32⟩
  | .hbm, ⟨46, _⟩ => ⟨S512x3, .f32⟩
  | .hbm, ⟨47, _⟩ => ⟨S512, .i32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Proof.Words.lean ====
/-
  The kernel's integer words as natural numbers: the window of rows it reads for one segment, the bounds of its two
  counted loops, and the offsets its loads and stores go to.
-/
module

public import proofs.«01_k».proof.KernelIdeal
public import Idealize.ShloMosaic.Lib.Routing.Words
public import Idealize.ShloMosaic.Lib.LoopRemainder

@[expose] public section

noncomputable section

namespace Cert.SegPool

open Cert.KernelIdeal
open Idealize.ShloMosaic Idealize.ShloMosaic.Routing

/-! ## Single operations -/

theorem addi_nat (a b : ℕ) : Scalar.addi (BitVec.ofNat 32 a) (BitVec.ofNat 32 b) = BitVec.ofNat 32 (a + b) :=
  (BitVec.ofNat_add a b).symm

theorem muli_nat (a b : ℕ) : Scalar.muli (BitVec.ofNat 32 a) (BitVec.ofNat 32 b) = BitVec.ofNat 32 (a * b) :=
  (BitVec.ofNat_mul a b).symm

theorem subi_nat {a b : ℕ} (h : b ≤ a) (ha : a < 2 ^ 32) :
    Scalar.subi (BitVec.ofNat 32 a) (BitVec.ofNat 32 b) = BitVec.ofNat 32 (a - b) := by
  apply BitVec.eq_of_toNat_eq
  show (BitVec.ofNat 32 a - BitVec.ofNat 32 b).toNat = _
  simp only [BitVec.toNat_sub, BitVec.toNat_ofNat]
  omega

theorem slt_nat {a b : ℕ} (ha : a < 2 ^ 31) (hb : b < 2 ^ 31) :
    Scalar.cmpi .slt (BitVec.ofNat 32 a) (BitVec.ofNat 32 b) = BitVec.ofBool (decide (a < b)) :=
  congrArg BitVec.ofBool (slt_ofNat32 ha hb)

theorem sgt_nat {a b : ℕ} (ha : a < 2 ^ 31) (hb : b < 2 ^ 31) :
    Scalar.cmpi .sgt (BitVec.ofNat 32 a) (BitVec.ofNat 32 b) = BitVec.ofBool (decide (b < a)) :=
  congrArg BitVec.ofBool (slt_ofNat32 hb ha)

theorem extui_nat (p : Prop) [Decidable p] :
    (Scalar.extui (BitVec.ofBool (decide p)) : BitVec 32) = BitVec.ofNat 32 (if p then 1 else 0) :=
  setWidth_ofBool p

theorem maxsi_nat {a b : ℕ} (ha : a < 2 ^ 31) (hb : b < 2 ^ 31) :
    Scalar.maxsi (BitVec.ofNat 32 a) (BitVec.ofNat 32 b) = BitVec.ofNat 32 (max a b) := by
  show (if (BitVec.ofNat 32 b).slt (BitVec.ofNat 32 a) then _ else _) = _
  rw [slt_ofNat32 hb ha]
  by_cases h : b < a
  · simp [h, max_eq_left h.le]
  · simp [h, max_eq_right (not_lt.mp h)]

theorem minsi_nat {a b : ℕ} (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then _ else _) = _
  rw [slt_ofNat32 ha hb]
  by_cases h : a < b
  · simp [h, min_eq_left h.le]
  · simp [h, min_eq_right (not_lt.mp h)]

/-! ## Floor division -/

/-- Floor division of words, spelled as the kernel spells it: the quotient rounded to zero, less one where the signs
    differ and the remainder is not zero. -/
def flr (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem flr_nat {n d : ℕ} (hn : n < 2 ^ 31) (h0 : 0 < d) (hd : d < 2 ^ 31) :
    flr (BitVec.ofNat 32 n) (BitVec.ofNat 32 d) = BitVec.ofNat 32 (n / d) := by
  have hdiv : Scalar.divsi (BitVec.ofNat 32 n) (BitVec.ofNat 32 d) = BitVec.ofNat 32 (n / d) := divsi_word _ hn h0 hd
  have hrem : Scalar.remsi (BitVec.ofNat 32 n) (BitVec.ofNat 32 d) = BitVec.ofNat 32 (n % d) := remsi_word _ hn h0 hd
  unfold flr
  rw [hdiv, hrem, sgt_nat (b := 0) hn (by decide), slt_nat (b := 0) hn (by decide), sgt_nat (b := 0) hd (by decide),
    slt_nat (b := 0) hd (by decide), extui_nat, extui_nat, extui_nat, extui_nat]
  rcases Nat.eq_zero_or_pos n with rfl | hp
  · simp only [Nat.zero_mod]
    have : Scalar.cmpi .ne (BitVec.ofNat 32 0) 0#32 = 0#1 := by decide
    rw [this]
    have h2 : ∀ c : BitVec 1, Scalar.andi c 0#1 = 0#1 := by decide
    rw [h2]
    rfl
  · simp only [hp, h0, if_true, Nat.not_lt_zero, if_false]
    have : Scalar.cmpi .ne (Scalar.subi (BitVec.ofNat 32 1) (BitVec.ofNat 32 0))
      (Scalar.subi (BitVec.ofNat 32 1) (BitVec.ofNat 32 0)) = 0#1 := by decide
    rw [this]
    have h2 : ∀ c : BitVec 1, Scalar.andi 0#1 c = 0#1 := by decide
    rw [h2]
    rfl

/-! ## The window of one segment -/

/-- The first row of the block a grid point works on. -/
def rowStart (i : grid0.Coords) : BitVec 32 := Scalar.muli (BitVec.ofNat 32 (i 0).val) 2000#32

/-- A segment's first row `g`, counted from the first row `v0` of the block. -/
def relStart (v0 g : BitVec 32) : BitVec 32 := Scalar.subi (Scalar.maxsi g v0) v0

/-- The row `e` after a segment's last, counted from the first row `v0` of the block. -/
def relEnd (v0 e : BitVec 32) : BitVec 32 := Scalar.subi (Scalar.minsi e (Scalar.addi v0 2000#32)) v0

/-- The first row of the window: the segment's first row, rounded down to a multiple of 8. -/
def winStart (v0 g : BitVec 32) : BitVec 32 := Scalar.muli (flr (relStart v0 g) 8#32) 8#32

/-- Whether the segment's rows reach past the window's 144 rows, as a word. -/
def winOver (v0 g e : BitVec 32) : BitVec 32 :=
  Scalar.extui (Scalar.cmpi .sgt (Scalar.subi (relEnd v0 e) (winStart v0 g)) 144#32)

/-- `relStart` on natural numbers. -/
def nStart (t g : ℕ) : ℕ := max g (2000 * t) - 2000 * t

/-- `relEnd` on natural numbers. -/
def nEnd (t e : ℕ) : ℕ := min e (2000 * t + 2000) - 2000 * t

theorem rowStart_nat (i : grid0.Coords) : rowStart i = BitVec.ofNat 32 (2000 * (i 0).val) := by
  rw [rowStart, muli_nat, Nat.mul_comm]

variable {t g e : ℕ}

theorem relStart_nat (ht : t < 25) (hg : g ≤ 50000) :
    relStart (BitVec.ofNat 32 (2000 * t)) (BitVec.ofNat 32 g) = BitVec.ofNat 32 (nStart t g) := by
  rw [relStart, maxsi_nat (by omega) (by omega), subi_nat (le_max_right _ _) (by omega)]
  rfl

theorem relEnd_nat (ht : t < 25) (he : e ≤ 50000) (hr : 2000 * t ≤ e) :
    relEnd (BitVec.ofNat 32 (2000 * t)) (BitVec.ofNat 32 e) = BitVec.ofNat 32 (nEnd t e) := by
  rw [relEnd, addi_nat, minsi_nat (by omega) (by omega), subi_nat (by omega) (by omega)]
  rfl

theorem winStart_nat (ht : t < 25) (hg : g ≤ 50000) :
    winStart (BitVec.ofNat 32 (2000 * t)) (BitVec.ofNat 32 g) = BitVec.ofNat 32 (nStart t g / 8 * 8) := by
  have h : nStart t g < 2 ^ 31 := by unfold nStart; omega
  rw [winStart, relStart_nat ht hg, flr_nat h (by decide) (by decide), muli_nat]

theorem winOver_nat (ht : t < 25) (hg : g ≤ 50000) (he : e ≤ 50000) (hr : 2000 * t ≤ e) (hw : nStart t g / 8 * 8 ≤ nEnd t e) :
    winOver (BitVec.ofNat 32 (2000 * t)) (BitVec.ofNat 32 g) (BitVec.ofNat 32 e) =
      BitVec.ofNat 32 (if 144 < nEnd t e - nStart t g / 8 * 8 then 1 else 0) := by
  have h : nEnd t e < 2 ^ 31 := by unfold nEnd; omega
  rw [winOver, relEnd_nat ht he hr, winStart_nat ht hg, subi_nat hw (by omega), sgt_nat (by omega) (by decide), extui_nat]

/-- The window of a segment that starts by the end of the block lies inside the scratch array. -/
theorem win_inb (hg : g ≤ 2000 * t + 2000) : nStart t g / 8 * 8 + 144 ≤ 2144 := by unfold nStart; omega

/-! ## Loops -/

theorem toInt_nat {a : ℕ} (h : a < 2 ^ 31) : (BitVec.ofNat 32 a).toInt = a := WordArith.toInt_ofNat_small a h

theorem trips_nat {a b : ℕ} (ha : a < 2 ^ 31) (hb : b < 2 ^ 31) :
    Scf.trips (BitVec.ofNat 32 a) (BitVec.ofNat 32 b) 1#32 = b - a := by
  have h1 : (1#32 : BitVec 32).toInt = 1 := by decide
  unfold Scf.trips
  rw [h1, toInt_nat ha, toInt_nat hb]
  omega

theorem ok_nat {a b : ℕ} (ha : a < 2 ^ 30) (hb : b < 2 ^ 30) : Scf.OK (BitVec.ofNat 32 a) (BitVec.ofNat 32 b) 1#32 := by
  have h1 : (1#32 : BitVec 32).toInt = 1 := by decide
  refine ⟨by rw [h1]; decide, ?_⟩
  rw [trips_nat (by omega) (by omega), h1, toInt_nat (by omega)]
  have : (2 : ℤ) ^ (32 - 1) = 2147483648 := by norm_num
  omega

theorem divsi_one (x : BitVec 32) : Scalar.divsi x 1#32 = x := WordArith.divsi_one _ x

/-- A block's first and last segment, as words, are in order and name rows of the result. -/
structure Seg (v20 v22 : BitVec 32) (a b : ℕ) : Prop where
  lo : v20 = BitVec.ofNat 32 a
  hi : v22 = BitVec.ofNat 32 b
  le : a ≤ b
  lt : b < 512

section Bounds
variable {v20 v22 : BitVec 32} {a b : ℕ} (h : Seg v20 v22 a b)
include h

theorem t1_loop : k0_t1_loop v20 v22 = ⟨0#32, BitVec.ofNat 32 ((b - a + 1) / 2), 1#32⟩ := by
  obtain ⟨rfl, rfl, hle, hlt⟩ := h
  show (⟨0#32, Scalar.addi 0#32 (Scalar.muli (Scalar.divsi (Scalar.subi (flr (Scalar.addi (Scalar.subi _ _) 1#32) 2#32) 0#32)
    1#32) 1#32), 1#32⟩ : Scf.Loop 32) = _
  rw [subi_nat hle (by omega), addi_nat, flr_nat (by omega) (by decide) (by decide), subi_nat (b := 0) (Nat.zero_le _) (by omega),
    divsi_one, muli_nat, addi_nat]
  congr 2; omega

theorem t1_trips : (k0_t1_loop v20 v22).trips = (b - a + 1) / 2 := by
  have := h.lt
  show Scf.trips _ _ _ = _
  rw [t1_loop h]
  exact trips_nat (a := 0) (by decide) (by omega)

theorem t1_ok : (k0_t1_loop v20 v22).OK := by
  have := h.lt
  show Scf.OK _ _ _
  rw [t1_loop h]
  exact ok_nat (a := 0) (by decide) (by omega)

theorem t2_loop : k0_t2_loop v20 v22 = ⟨BitVec.ofNat 32 ((b - a + 1) / 2), BitVec.ofNat 32 ((b - a + 1) / 2), 1#32⟩ := by
  obtain ⟨rfl, rfl, hle, hlt⟩ := h
  show (⟨Scalar.addi 0#32 (Scalar.muli (Scalar.divsi (Scalar.subi (flr (Scalar.addi (Scalar.subi _ _) 1#32) 2#32) 0#32)
    1#32) 1#32), Scalar.addi 0#32 (Scalar.subi (flr (Scalar.addi (Scalar.subi _ _) 1#32) 2#32) 0#32), 1#32⟩ : Scf.Loop 32) = _
  rw [subi_nat hle (by omega), addi_nat, flr_nat (by omega) (by decide) (by decide), subi_nat (b := 0) (Nat.zero_le _) (by omega),
    divsi_one, muli_nat, addi_nat, addi_nat]
  congr 2 <;> omega

theorem t2_trips : (k0_t2_loop v20 v22).trips = 0 := by
  show Scf.trips _ _ _ = _
  rw [t2_loop h]
  exact Scf.trips_self _

theorem t2_ok : (k0_t2_loop v20 v22).OK := by
  have := h.lt
  show Scf.OK _ _ _
  rw [t2_loop h]
  exact ok_nat (by omega) (by omega)

theorem t3_loop : k0_t3_loop v20 v22 = ⟨BitVec.ofNat 32 a, BitVec.ofNat 32 (b + 1), 1#32⟩ := by
  obtain ⟨rfl, rfl, hle, hlt⟩ := h
  show (⟨_, Scalar.addi _ (Scalar.muli (Scalar.divsi (Scalar.subi (Scalar.addi _ 1#32) _) 1#32) 1#32), 1#32⟩ : Scf.Loop 32) = _
  rw [addi_nat, subi_nat (by omega) (by omega), divsi_one, muli_nat, addi_nat]
  congr 2; omega

theorem t3_trips : (k0_t3_loop v20 v22).trips = b + 1 - a := by
  have := h.lt; have := h.le
  show Scf.trips _ _ _ = _
  rw [t3_loop h]
  exact trips_nat (by omega) (by omega)

theorem t3_ok : (k0_t3_loop v20 v22).OK := by
  have := h.lt; have := h.le
  show Scf.OK _ _ _
  rw [t3_loop h]
  exact ok_nat (by omega) (by omega)

theorem t4_loop : k0_t4_loop v20 v22 = ⟨BitVec.ofNat 32 (b + 1), BitVec.ofNat 32 (b + 1), 1#32⟩ := by
  obtain ⟨rfl, rfl, hle, hlt⟩ := h
  show (⟨Scalar.addi _ (Scalar.muli (Scalar.divsi (Scalar.subi (Scalar.addi _ 1#32) _) 1#32) 1#32),
    Scalar.addi _ (Scalar.subi (Scalar.addi _ 1#32) _), 1#32⟩ : Scf.Loop 32) = _
  rw [addi_nat, subi_nat (by omega) (by omega), divsi_one, muli_nat, addi_nat, addi_nat]
  congr 2 <;> omega

theorem t4_trips : (k0_t4_loop v20 v22).trips = 0 := by
  show Scf.trips _ _ _ = _
  rw [t4_loop h]
  exact Scf.trips_self _

theorem t4_ok : (k0_t4_loop v20 v22).OK := by
  have := h.lt
  show Scf.OK _ _ _
  rw [t4_loop h]
  exact ok_nat (by omega) (by omega)

/-! ## Offsets -/

/-- The first segment of trip `k`. -/
def s1 (a k : ℕ) : ℕ := a + 1 + 2 * k

/-- The second segment of trip `k`: the next one, or the block's last again. -/
def s2 (a b k : ℕ) : ℕ := min (a + 1 + 2 * k + 1) b

omit h in
theorem iv_nat (l k : ℕ) : Scf.iv (BitVec.ofNat 32 l) 1#32 k = BitVec.ofNat 32 (l + k) := by
  show Scalar.addi _ (Scalar.muli (BitVec.ofNat 32 k) (BitVec.ofNat 32 1)) = _
  rw [muli_nat, addi_nat, Nat.mul_one]

theorem word1 (k : ℕ) :
    Scalar.addi (Scalar.addi v20 1#32) (Scalar.muli 2#32 (Scf.iv 0#32 1#32 k)) = BitVec.ofNat 32 (s1 a k) := by
  rw [h.lo, addi_nat, iv_nat 0, muli_nat, addi_nat]
  unfold s1; congr 1; omega

theorem trip1_lt (k : Fin (k0_t1_loop v20 v22).trips) : s1 a k ≤ b := by
  have := k.isLt.trans_eq (t1_trips h); have := h.le
  unfold s1; omega

theorem word2 (k : ℕ) (h1 : s1 a k ≤ b) :
    Scalar.minsi (Scalar.addi (Scalar.addi (Scalar.addi v20 1#32) (Scalar.muli 2#32 (Scf.iv 0#32 1#32 k))) 1#32) v22 =
      BitVec.ofNat 32 (s2 a b k) := by
  have := h.lt
  rw [word1 h k, h.hi, addi_nat, minsi_nat (by omega) (by omega)]
  rfl

theorem off6 (k : Fin (k0_t1_loop v20 v22).trips) : k0_off6 v20 v22 k = ![s1 a k] := by
  have h1 := trip1_lt h k
  have := h.lt
  show ![(Scalar.addi (Scalar.addi v20 1#32) (Scalar.muli 2#32 (Scf.iv 0#32 1#32 k))).toNat] = _
  rw [word1 h k, WordArith.toNat_ofNat_of_lt _ (by omega)]

theorem off7 (k : Fin (k0_t1_loop v20 v22).trips) : k0_off7 v20 v22 k = ![s1 a k + 1] := by
  have h1 := trip1_lt h k
  have := h.lt
  show ![(Scalar.addi (Scalar.addi (Scalar.addi v20 1#32) (Scalar.muli 2#32 (Scf.iv 0#32 1#32 k))) 1#32).toNat] = _
  rw [word1 h k, addi_nat, WordArith.toNat_ofNat_of_lt _ (by omega)]

theorem off9 (k : Fin (k0_t1_loop v20 v22).trips) : k0_off9 v20 v22 k = ![s1 a k, 0] := by
  have h1 := trip1_lt h k
  have := h.lt
  show ![(Scalar.addi (Scalar.addi v20 1#32) (Scalar.muli 2#32 (Scf.iv 0#32 1#32 k))).toNat, 0] = _
  rw [word1 h k, WordArith.toNat_ofNat_of_lt _ (by omega)]

omit h in
theorem s2_le (k : ℕ) : s2 a b k ≤ b := min_le_right _ _

theorem off10 (k : Fin (k0_t1_loop v20 v22).trips) : k0_off10 v20 v22 k = ![s2 a b k] := by
  have h1 := s2_le (a := a) (b := b) k
  have := h.lt
  show ![(Scalar.minsi (Scalar.addi (Scalar.addi (Scalar.addi v20 1#32) (Scalar.muli 2#32 (Scf.iv 0#32 1#32 k))) 1#32) v22).toNat] = _
  rw [word2 h k (trip1_lt h k), WordArith.toNat_ofNat_of_lt _ (by omega)]

theorem off11 (k : Fin (k0_t1_loop v20 v22).trips) : k0_off11 v20 v22 k = ![s2 a b k + 1] := by
  have h1 := s2_le (a := a) (b := b) k
  have := h.lt
  show ![(Scalar.addi (Scalar.minsi (Scalar.addi (Scalar.addi (Scalar.addi v20 1#32) (Scalar.muli 2#32 (Scf.iv 0#32 1#32 k))) 1#32)
    v22) 1#32).toNat] = _
  rw [word2 h k (trip1_lt h k), addi_nat, WordArith.toNat_ofNat_of_lt _ (by omega)]

theorem off13 (k : Fin (k0_t1_loop v20 v22).trips) : k0_off13 v20 v22 k = ![s2 a b k, 0] := by
  have h1 := s2_le (a := a) (b := b) k
  have := h.lt
  show ![(Scalar.minsi (Scalar.addi (Scalar.addi (Scalar.addi v20 1#32) (Scalar.muli 2#32 (Scf.iv 0#32 1#32 k))) 1#32)
    v22).toNat, 0] = _
  rw [word2 h k (trip1_lt h k), WordArith.toNat_ofNat_of_lt _ (by omega)]

theorem off22_word (k : ℕ) : Scf.iv v20 1#32 k = BitVec.ofNat 32 (a + k) := by
  rw [h.lo, iv_nat]

theorem trip3_lt (k : Fin (k0_t3_loop v20 v22).trips) : a + k ≤ b := by
  have := k.isLt.trans_eq (t3_trips h); omega

theorem off22 (k : Fin (k0_t3_loop v20 v22).trips) : k0_off22 v20 v22 k = ![a + k, 0] := by
  have h1 := trip3_lt h k
  have := h.lt
  show ![(Scf.iv v20 1#32 k).toNat, 0] = _
  rw [off22_word h k, WordArith.toNat_ofNat_of_lt _ (by omega)]

theorem off2 : k0_off2 v20 = ![a] := by
  have := h.lt; have := h.le
  show ![v20.toNat] = _
  rw [h.lo, WordArith.toNat_ofNat_of_lt _ (by omega)]

theorem off3 : k0_off3 v20 = ![a + 1] := by
  have := h.lt; have := h.le
  show ![(Scalar.addi v20 1#32).toNat] = _
  rw [h.lo, addi_nat, WordArith.toNat_ofNat_of_lt _ (by omega)]

theorem off5 : k0_off5 v20 = ![a, 0] := by
  have := h.lt; have := h.le
  show ![v20.toNat, 0] = _
  rw [h.lo, WordArith.toNat_ofNat_of_lt _ (by omega)]

/-! ## The side conditions -/

omit h in
theorem inb_513 {s : ℕ} (hs : s < 513) : ∀ x, (![s] : Fin 1 → ℕ) x + S1.size x ≤ S513.size x := by
  intro x; fin_cases x; show s + 1 ≤ 513; omega

omit h in
theorem inb_row {s : ℕ} (hs : s < 512) : ∀ x, (![s, 0] : Fin 2 → ℕ) x + S1x1024.size x ≤ S512x1024.size x := by
  intro x
  fin_cases x
  · show s + 1 ≤ 512; omega
  · show 0 + 1024 ≤ 1024; omega

omit h in
theorem inb_win {s : ℕ} (hs : s + 144 ≤ 2144) : ∀ x, (![s, 0] : Fin 2 → ℕ) x + S144x1024.size x ≤ S2144x1024.size x := by
  intro x
  fin_cases x
  · exact hs
  · show 0 + 1024 ≤ 1024; omega

theorem chk1 : k0_chk1 v20 := by
  have := h.lt; have := h.le
  exact ⟨off2 h ▸ inb_513 (by omega), off3 h ▸ inb_513 (by omega), off5 h ▸ inb_row (by omega)⟩

theorem chk3 : k0_chk3 v20 v22 := by
  have := h.lt; have := h.le
  have no2 : ∀ (P : Fin (k0_t2_loop v20 v22).trips → Prop) k, P k := fun P k => absurd (k.isLt.trans_eq (t2_trips h)) (Nat.not_lt_zero _)
  refine ⟨t1_ok h, fun k => ?_, fun k => ?_, fun k => ?_, fun k => ?_, fun k => ?_, fun k => ?_, t2_ok h,
    no2 _, no2 _, no2 _, no2 _, no2 _, no2 _⟩
  all_goals have h1 := trip1_lt h k
  all_goals have h2 := s2_le (a := a) (b := b) k
  · rw [off6 h]; exact inb_513 (by omega)
  · rw [off7 h]; exact inb_513 (by omega)
  · rw [off9 h]; exact inb_row (by omega)
  · rw [off10 h]; exact inb_513 (by omega)
  · rw [off11 h]; exact inb_513 (by omega)
  · rw [off13 h]; exact inb_row (by omega)

theorem chk8 (v101 : BitVec 32) : k0_chk8 v20 v22 v101 := by
  have := h.lt
  refine ⟨fun _ => t3_ok h, fun k _ => ?_, fun _ => t4_ok h, fun k => absurd (k.isLt.trans_eq (t4_trips h)) (Nat.not_lt_zero _)⟩
  have h1 := trip3_lt h k
  rw [off22 h]; exact inb_row (by omega)

end Bounds

section Window
variable {i : grid0.Coords} {g : ℕ}

/-- Where the window of a segment that starts at row `g` begins in the scratch array. -/
theorem off8 (hg : g ≤ 50000) : k0_off8 i (BitVec.ofNat 32 g) = ![nStart (i 0).val g / 8 * 8, 0] := by
  have ht : (i 0).val < 25 := (i 0).isLt
  have hn : nStart (i 0).val g ≤ 50000 := by unfold nStart; omega
  show ![(winStart (rowStart i) _).toNat, 0] = _
  rw [rowStart_nat, winStart_nat ht hg, WordArith.toNat_ofNat_of_lt _ (by omega)]

theorem off12 (hg : g ≤ 50000) : k0_off12 i (BitVec.ofNat 32 g) = ![nStart (i 0).val g / 8 * 8, 0] := off8 hg

theorem off4 (hg : g ≤ 50000) : k0_off4 i (BitVec.ofNat 32 g) = ![nStart (i 0).val g / 8 * 8, 0] := off8 hg

theorem chk4 (hg : g ≤ 50000) (hb : g ≤ 2000 * (i 0).val + 2000) : k0_chk4 i (BitVec.ofNat 32 g) := by
  unfold k0_chk4
  rw [off8 (i := i) hg]
  exact inb_win (win_inb hb)

theorem chk5 (hg : g ≤ 50000) (hb : g ≤ 2000 * (i 0).val + 2000) : k0_chk5 i (BitVec.ofNat 32 g) := by
  unfold k0_chk5
  rw [off12 (i := i) hg]
  exact inb_win (win_inb hb)

theorem chk2 (hg : g ≤ 50000) (hb : g ≤ 2000 * (i 0).val + 2000) : k0_chk2 i (BitVec.ofNat 32 g) := by
  unfold k0_chk2
  rw [off4 (i := i) hg]
  exact inb_win (win_inb hb)

end Window

end Cert.SegPool

end
-- ==== Proof.Spec.lean ====
/-
  What one grid point leaves in the result's block, as a function of what it reads: the segment starts, the block's first
  and last segment, the block's segment numbers, and the scratch array that holds the block's rows. Every function here is
  stated for both readings of a float.
-/
module

public import proofs.«01_k».proof.Proof.Gen.KernelIdeal.Skeleton
public import proofs.«01_k».proof.Proof.Words
public import Idealize.ShloMosaic.Lib.VecWindow
public import Idealize.ShloMosaic.Lib.Pointwise.Index

@[expose] public section

noncomputable section

namespace Cert.SegPool

open Cert.KernelIdeal Cert.KernelIdeal.Gen
open Idealize.ShloMosaic

variable {F : FTy → Type} [FloatOps F]

/-- `O` with row `s` replaced by `p`. -/
def setRow (O : Vec F S512x1024 .f32) (s : ℕ) (p : Vec F S1x1024 .f32) : Vec F S512x1024 .f32 :=
  VecWindow.put O ![s, 0] S1x1024.size p

/-- Row `s` of `O`. -/
def rowAt (O : Vec F S512x1024 .f32) (s : ℕ) : Vec F S1x1024 .f32 := fun j =>
  O (ix2 (n0 := 512) (n1 := 1024) ⟨s % 512, Nat.mod_lt _ (by decide)⟩ (j 1))

/-- The 144 rows of the scratch array from row `r` on. -/
def rows144 (Z : Vec F S2144x1024 .f32) (r : ℕ) : Vec F S144x1024 .f32 := fun j =>
  Z (ix2 (n0 := 2144) (n1 := 1024) ⟨(r + (j 0).val) % 2144, Nat.mod_lt _ (by decide)⟩ (j 1))

/-- The first 2000 rows of the scratch array. -/
def rows2000 (Z : Vec F S2144x1024 .f32) : Vec F S2000x1024 .f32 := fun j =>
  Z (ix2 (n0 := 2144) (n1 := 1024) ⟨(j 0).val % 2144, Nat.mod_lt _ (by decide)⟩ (j 1))

/-- What one grid point works from: its number `t`, the first row `G s` of every segment, the block's first segment `a` and
    last segment `b`, the block's segment numbers, and the scratch array after the block's rows went in. -/
structure Pt (F : FTy → Type) where
  t : ℕ
  G : ℕ → ℕ
  a : ℕ
  b : ℕ
  seg : Vec F S2000x1 .i32
  Z : Vec F S2144x1024 .f32

namespace Pt

variable (p : Pt F)

/-- The largest entry, column by column, over the rows of segment `s` that fall in its window. -/
def winRow (s : ℕ) : FVec F S1x1024 .f32 :=
  k0_pay9 (rows144 p.Z (nStart p.t (p.G s) / 8 * 8))
    (k0_pay7 (F := F) (BitVec.ofNat 32 (2000 * p.t)) (BitVec.ofNat 32 (p.G s)) (BitVec.ofNat 32 (p.G (s + 1)))) k0_pay8

/-- Whether segment `s` reaches past its window, as a word. -/
def over (s : ℕ) : BitVec 32 :=
  winOver (BitVec.ofNat 32 (2000 * p.t)) (BitVec.ofNat 32 (p.G s)) (BitVec.ofNat 32 (p.G (s + 1)))

/-- A row of the result raised to the largest entry over all the block's rows of the segment numbered `w`. -/
def fullRow (w : BitVec 32) (row : Vec F S1x1024 .f32) : FVec F S1x1024 .f32 :=
  maximumf (shapeCast S1x1024 row shapeCasts_S1x1024_S1x1024)
    (shapeCast S1x1024
      (multiReduction .maximumf [0] S1024
        (select
          (broadcastTo S2000x1024
            (shapeCast S2000x1 (cmpi .eq (shapeCast S2000x1 p.seg shapeCasts_S2000x1_S2000x1 : IVec S2000x1 32) (broadcast S2000x1 w))
              shapeCasts_S2000x1_S2000x1)
            broadcasts_S2000x1_S2000x1024)
          (rows2000 p.Z) (broadcast S2000x1024 (Scalar.ofBits .f32 0xFF800000#32 : F .f32)) : Vec F S2000x1024 .f32)
        0xFF800000#32 reduces_S2000x1024_S1024 (.inl rfl) rfl)
      shapeCasts_S1024_S1x1024)

/-- The result after the block's first segment is merged in. -/
def head (O : Vec F S512x1024 .f32) : Vec F S512x1024 .f32 :=
  setRow O p.a (maximumf (shapeCast S1x1024 (rowAt O p.a) shapeCasts_S1x1024_S1x1024) (p.winRow p.a))

/-- One trip of the main loop: two segments' rows, and whether either reached past its window. -/
def trip (k : ℕ) (q : Vec F S512x1024 .f32 × BitVec 32) : Vec F S512x1024 .f32 × BitVec 32 :=
  (setRow (setRow q.1 (s1 p.a k) (p.winRow (s1 p.a k))) (s2 p.a p.b k) (p.winRow (s2 p.a p.b k)),
    Scalar.ori (Scalar.ori q.2 (p.over (s1 p.a k))) (p.over (s2 p.a p.b k)))

/-- The result and the word after `n` trips of the main loop. -/
def trips (O : Vec F S512x1024 .f32) : ℕ → Vec F S512x1024 .f32 × BitVec 32
  | 0 => (p.head O, p.over p.a)
  | n + 1 => p.trip n (trips O n)

/-- The result after `n` trips of the loop that goes over the whole block once per segment. -/
def fulls (O : Vec F S512x1024 .f32) : ℕ → Vec F S512x1024 .f32
  | 0 => O
  | n + 1 => setRow (fulls O n) (p.a + n) (p.fullRow (BitVec.ofNat 32 (p.a + n)) (rowAt (fulls O n) (p.a + n)))

/-- The result after both loops. -/
def merged (O : Vec F S512x1024 .f32) : Vec F S512x1024 .f32 :=
  let q := p.trips O ((p.b - p.a + 1) / 2)
  if k0_cond2 q.2 = 1#1 then p.fulls q.1 (p.b + 1 - p.a) else q.1

/-- What the point leaves of the result `O` it found: cleared first at the first point, and with the second layer's offset
    and activation applied at the last. -/
def out (b2 : Vec F S1x1024 .f32) (O : Vec F S512x1024 .f32) : Vec F S512x1024 .f32 :=
  let O' := p.merged (if p.t = 0 then k0_pay15 else O)
  if p.t = 24 then k0_pay6 O' b2 else O'

end Pt

/-! ## Rows and windows -/

theorem window_row (O : Vec F S512x1024 .f32) {s : ℕ} (hs : s < 512) :
    VecWindow.window O ![s, 0] S1x1024.size (inb_row hs) = rowAt O s := by
  funext j
  refine congrArg O (funext fun d => Fin.ext ?_)
  fin_cases d
  · show s + 1 * (j 0).val = s % 512
    have : (j 0).val < 1 := (j 0).isLt
    omega
  · show 0 + 1 * (j 1).val = (j 1).val
    omega

theorem window_144 (Z : Vec F S2144x1024 .f32) {r : ℕ} (hr : r + 144 ≤ 2144) :
    VecWindow.window Z ![r, 0] S144x1024.size (inb_win hr) = rows144 Z r := by
  funext j
  refine congrArg Z (funext fun d => Fin.ext ?_)
  fin_cases d
  · show r + 1 * (j 0).val = (r + (j 0).val) % 2144
    have : (j 0).val < 144 := (j 0).isLt
    omega
  · show 0 + 1 * (j 1).val = (j 1).val
    omega

end Cert.SegPool

end
-- ==== Proof.Trip.lean ====
/-
  One trip of each of the kernel's two counted loops: what it leaves in the result's block.
-/
module

public import proofs.«01_k».proof.Proof.Gen.KernelIdeal.Frame
public import proofs.«01_k».proof.Proof.Spec
public import Idealize.ShloMosaic.Lib.Tactic

@[expose] public section

noncomputable section

namespace Cert.SegPool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's array. -/
abbrev Bf (F : FTy → Type) (c : Dev nD) {sp : Space} {S : Shape} {e : EltTy} (M : Memref sig .tc sp S e) : Type :=
  Buf (Elt F) (M.view.loc (c : Thread nD τ))

/-- A memref's array held whole, with contents `f`. -/
abbrev pt (c : Dev nD) {sp : Space} {S : Shape} {e : EltTy} (M : Memref sig .tc sp S e) (f : Bf F c M) : sProp 𝕄 :=
  M.view.loc (c : Thread nD τ) ↦{fullShare} f

/-- The table of segment starts holds the numbers `G`, in range, and those of the block's segments lie by the end of the
    block. -/
structure Starts (G : ℕ → ℕ) (t b : ℕ) : Prop where
  le : ∀ s, s < 513 → G s ≤ 50000
  near : ∀ s, s ≤ b → G s ≤ 2000 * t + 2000

variable (c : Dev nD) (i : grid0.Coords)
  (arg1 : Memref sig .tc .smem S25 .i32) (harg1 : arg1.IsWhole) (arg2 : Memref sig .tc .smem S25 .i32) (harg2 : arg2.IsWhole)
  (arg3 : Memref sig .tc .smem S513 .i32) (harg3 : arg3.IsWhole) (arg4 : Memref sig .tc .vmem S2000x256 .f32) (harg4 : arg4.IsWhole)
  (arg5 : Memref sig .tc .vmem S2000x1 .i32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S2144x1024 .f32) (harg11 : arg11.IsWhole)

/-- The table's contents, as words. -/
def words (G : ℕ → ℕ) : Vec F S513 .i32 := fun j => BitVec.ofNat 32 (G (j 0).val)

omit [FloatOps F] in
theorem word_at {G : ℕ → ℕ} {f3 : Bf F c arg3} (hf : arg3.view.read (Elt F) f3 = words (F := F) G) {off : Fin 1 → ℕ} {s : ℕ}
    (inb : ∀ a, off a + S1.size a ≤ S513.size a) (h : off = ![s]) (x) :
    View.readAt (Elt F) arg3.view (Rect.unit (s := S513) off S1.size inb).toLoadRect f3 x = BitVec.ofNat 32 (G s) := by
  subst h
  refine (congrFun hf _).trans (congrArg (fun n => BitVec.ofNat 32 (G n)) ?_)
  show s + 1 * (x 0).val = s
  have : (x 0).val < 1 := (x 0).isLt
  omega

theorem win_at {f : Bf F c arg11} {off : Fin 2 → ℕ} {r : ℕ} (inb : ∀ a, off a + S144x1024.size a ≤ S2144x1024.size a)
    (h : off = ![r, 0]) (hr : r + 144 ≤ 2144) :
    View.readAt (Elt F) arg11.view (Rect.unit (s := S2144x1024) off S144x1024.size inb).toLoadRect f = rows144 (arg11.view.read (Elt F) f) r := by
  rw [View.readAt_unit _ _ _ h (inb_win hr)]
  exact window_144 _ hr

theorem row_at {f : Bf F c arg10} {off : Fin 2 → ℕ} {s : ℕ} (inb : ∀ a, off a + S1x1024.size a ≤ S512x1024.size a)
    (h : off = ![s, 0]) (hs : s < 512) :
    View.readAt (Elt F) arg10.view (Rect.unit (s := S512x1024) off S1x1024.size inb).toLoadRect f = rowAt (arg10.view.read (Elt F) f) s := by
  rw [View.readAt_unit _ _ _ h (inb_row hs)]
  exact window_row _ hs

omit c i in
theorem winRow_first (p : Pt F) {s : ℕ} {v0 g e : BitVec 32} {z : Vec F S144x1024 .f32} (h0 : v0 = BitVec.ofNat 32 (2000 * p.t))
    (hg : g = BitVec.ofNat 32 (p.G s)) (he : e = BitVec.ofNat 32 (p.G (s + 1))) (hz : z = rows144 p.Z (nStart p.t (p.G s) / 8 * 8)) :
    k0_pay9 z (k0_pay7 (F := F) v0 g e) k0_pay8 = p.winRow s := by
  subst h0 hg he hz; rfl

omit c i in
theorem winRow_second (p : Pt F) {s : ℕ} {v0 g e : BitVec 32} {z : Vec F S144x1024 .f32} (h0 : v0 = BitVec.ofNat 32 (2000 * p.t))
    (hg : g = BitVec.ofNat 32 (p.G s)) (he : e = BitVec.ofNat 32 (p.G (s + 1))) (hz : z = rows144 p.Z (nStart p.t (p.G s) / 8 * 8)) :
    k0_pay1 (relStart v0 g) (relEnd v0 e) z (k0_pay10 (F := F) v0 g) = p.winRow s := by
  subst h0 hg he hz; rfl

omit c i in
theorem winRow_head (p : Pt F) {s : ℕ} {v0 g e : BitVec 32} {z : Vec F S144x1024 .f32} {row row' : Vec F S1x1024 .f32}
    (h0 : v0 = BitVec.ofNat 32 (2000 * p.t))
    (hg : g = BitVec.ofNat 32 (p.G s)) (he : e = BitVec.ofNat 32 (p.G (s + 1))) (hz : z = rows144 p.Z (nStart p.t (p.G s) / 8 * 8))
    (hr : row = row') :
    k0_pay17 (relStart v0 g) (relEnd v0 e) 8#32 (Scalar.divsi (relStart v0 g) 8#32) 0#32 z row
      = maximumf (shapeCast S1x1024 row' shapeCasts_S1x1024_S1x1024) (p.winRow s) := by
  subst h0 hg he hz hr; rfl

omit c i in
theorem over_eq (p : Pt F) {s : ℕ} {v0 g e : BitVec 32} (h0 : v0 = BitVec.ofNat 32 (2000 * p.t))
    (hg : g = BitVec.ofNat 32 (p.G s)) (he : e = BitVec.ofNat 32 (p.G (s + 1))) : winOver v0 g e = p.over s := by
  subst h0 hg he; rfl

omit c [FloatOps F] in
theorem off8_word {g : ℕ} {w : BitVec 32} (hw : w = BitVec.ofNat 32 g) (hg : g ≤ 50000) :
    k0_off8 i w = ![nStart (i 0).val g / 8 * 8, 0] := by
  subst hw; exact off8 hg

theorem trip1 (p : Pt F) (v20 v22 : Elt F .i32) (hs : Seg v20 v22 p.a p.b) (hG : Starts p.G p.t p.b) (ht : p.t = (i 0).val)
    (hw3 : k0_chk3 v20 v22) (k : Fin (k0_t1_loop v20 v22).trips)
    (acc : BitVec 32) (f3 : Bf F c arg3) (f10 : Bf F c arg10) (f11 : Bf F c arg11)
    (hf3 : arg3.view.read (Elt F) f3 = words (F := F) p.G) (hf11 : arg11.view.read (Elt F) f11 = p.Z) :
    iprop(pt c arg3 f3 ∗ pt c arg10 f10 ∗ pt c arg11 f11) ⊢ wp frame (wpE (defs₀ (F := F)) Variants.none c none) Set.univ
      (k0_t1_body i arg1 harg1 arg2 harg2 arg3 harg3 arg4 harg4 arg5 harg5 arg6 harg6 arg7 harg7 arg8 harg8 arg9 harg9 arg10 harg10
        arg11 harg11 (rowStart i) v20 v22 hw3 k acc)
      (fun r => iprop(pt c arg3 f3 ∗ (∃ f, pt c arg10 f ∗
        ⌜(arg10.view.read (Elt F) f, r) = p.trip k (arg10.view.read (Elt F) f10, acc)⌝) ∗ pt c arg11 f11)) := by
  have hlt := hs.lt
  have h1 := trip1_lt hs k
  have h2 := s2_le (a := p.a) (b := p.b) k
  have w6 := word_at c arg3 hf3 (k0_off6_inb v20 v22 hw3 k) (off6 hs k)
  have w7 := word_at c arg3 hf3 (k0_off7_inb v20 v22 hw3 k) (off7 hs k)
  have w10 := word_at c arg3 hf3 (k0_off10_inb v20 v22 hw3 k) (off10 hs k)
  have w11 := word_at c arg3 hf3 (k0_off11_inb v20 v22 hw3 k) (off11 hs k)
  have b1 := hG.le (s1 p.a k) (by omega)
  have b2 := hG.le (s2 p.a p.b k) (by omega)
  have n1 := ht ▸ hG.near _ h1
  have n2 := ht ▸ hG.near _ h2
  have hk4 : ∀ x, k0_chk4 i (View.readAt (Elt F) arg3.view (Rect.unit (s := S513) (k0_off6 v20 v22 k) S1.size
      (k0_off6_inb v20 v22 hw3 k)).toLoadRect f3 x) := fun x => by rw [w6 x]; exact chk4 b1 n1
  have hk5 : ∀ x, k0_chk5 i (View.readAt (Elt F) arg3.view (Rect.unit (s := S513) (k0_off10 v20 v22 k) S1.size
      (k0_off10_inb v20 v22 hw3 k)).toLoadRect f3 x) := fun x => by rw [w10 x]; exact chk5 b2 n2
  unfold k0_t1_body
  iintro ⟨H3, H10, H11⟩
  sl_exec (disch := first | exact hk4 _ | exact hk5 _)
  sl_step
  have h0 : rowStart i = BitVec.ofNat 32 (2000 * p.t) := by rw [ht]; exact rowStart_nat i
  isplitl [H3]
  · iexact H3
  isplitr [H11]
  · iexists _
    isplitl [H10]
    · iexact H10
    ipureintro
    refine Prod.ext ?_ ?_
    · refine (View.read_writes_cons_put _ _ _ _ _ (off13 hs k)).trans ?_
      rw [View.read_writes_cons_put _ _ _ _ _ (off9 hs k)]
      rw [View.writes_nil]
      refine congrArg₂ (fun a b => VecWindow.put (VecWindow.put (arg10.view.read (Elt F) f10) _ _ a) _ _ b) ?_ ?_
      · exact winRow_first p h0 (w6 _) (w7 _) (hf11 ▸ win_at c arg11 _ (ht ▸ off8_word i (w6 _) b1) (ht ▸ win_inb n1))
      · exact winRow_second p h0 (w10 _) (w11 _) (hf11 ▸ win_at c arg11 _ (ht ▸ off8_word i (w10 _) b2) (ht ▸ win_inb n2))
    · exact congrArg₂ (fun a b => Scalar.ori (Scalar.ori acc a) b) (over_eq p h0 (w6 _) (w7 _)) (over_eq p h0 (w10 _) (w11 _))
  · iexact H11

theorem trip3 (p : Pt F) (v20 v22 : Elt F .i32) (hs : Seg v20 v22 p.a p.b) (v101 : BitVec 32) (hw8 : k0_chk8 v20 v22 v101)
    (hc : k0_cond2 v101 = 1#1) (k : Fin (k0_t3_loop v20 v22).trips) (acc : Unit) (f10 : Bf F c arg10) :
    iprop(pt c arg10 f10) ⊢ wp frame (wpE (defs₀ (F := F)) Variants.none c none) Set.univ
      (k0_t3_body i arg1 harg1 arg2 harg2 arg3 harg3 arg4 harg4 arg5 harg5 arg6 harg6 arg7 harg7 arg8 harg8 arg9 harg9 arg10 harg10
        arg11 harg11 v20 v22 v101 hw8 hc p.seg (rows2000 p.Z) k acc)
      (fun _ => iprop(∃ f, pt c arg10 f ∗ ⌜arg10.view.read (Elt F) f = setRow (arg10.view.read (Elt F) f10) (p.a + k)
        (p.fullRow (BitVec.ofNat 32 (p.a + k)) (rowAt (arg10.view.read (Elt F) f10) (p.a + k)))⌝)) := by
  have hlt := hs.lt
  have hk := trip3_lt hs k
  unfold k0_t3_body
  iintro H10
  sl_exec
  sl_step
  iexists _
  isplitl [H10]
  · iexact H10
  ipureintro
  refine (View.read_writes_cons_put _ _ _ _ _ (off22 hs k)).trans ?_
  rw [View.writes_nil, row_at c arg10 _ (off22 hs k) (by omega)]
  refine congrArg (VecWindow.put (arg10.view.read (Elt F) f10) _ _) ?_
  rw [← off22_word hs k]
  rfl

end Cert.SegPool

end
-- ==== Proof.Body.lean ====
module

public import proofs.«01_k».proof.Proof.Trip

/-!
# The parts of one grid point

The kernel's body in four parts, each run from the arrays it touches at given contents: the dense layers, the block's first segment,
the loop over the other segments, and the loop that goes over the whole block once per segment.
-/

@[expose] public section

noncomputable section

namespace Cert.SegPool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .smem S25 .i32) (harg1 : arg1.IsWhole) (arg2 : Memref sig .tc .smem S25 .i32) (harg2 : arg2.IsWhole)
  (arg3 : Memref sig .tc .smem S513 .i32) (harg3 : arg3.IsWhole) (arg4 : Memref sig .tc .vmem S2000x256 .f32) (harg4 : arg4.IsWhole)
  (arg5 : Memref sig .tc .vmem S2000x1 .i32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S2144x1024 .f32) (harg11 : arg11.IsWhole)

theorem isFirst : (Scalar.cmpi .ne (Scalar.extui (Scalar.cmpi .eq (BitVec.ofNat 32 (i 0).val) 0#32) : BitVec 32) 0#32 = 1#1) ↔ (i 0).val = 0 := by
  generalize i 0 = t
  revert t
  show ∀ t : Fin 25, _
  decide +kernel

theorem isLast : (Scalar.cmpi .ne (Scalar.extui (Scalar.cmpi .eq (BitVec.ofNat 32 (i 0).val) 24#32) : BitVec 32) 0#32 = 1#1) ↔ (i 0).val = 24 := by
  generalize i 0 = t
  revert t
  show ∀ t : Fin 25, _
  decide +kernel

omit c i in
theorem chk1_of {v lo : BitVec 32} (h : k0_chk1 lo) (e : v = lo) : k0_chk1 v := e ▸ h

omit c i in
theorem chk3_of {v w lo hi : BitVec 32} (h : k0_chk3 lo hi) (e : v = lo) (e' : w = hi) : k0_chk3 v w := e ▸ e' ▸ h

omit c in
theorem chk2_of {v g : BitVec 32} (h : k0_chk2 i g) (e : v = g) : k0_chk2 i v := e ▸ h

omit c i in
theorem apply_eq {α : Type} {K : α → sProp 𝕄} {x y : α} (h : x = y) : K x ⊢ K y := by subst h; exact .rfl

section First

/-- What the first part of the body hands on: the point's number and first row, the block's first and last segment, the first
    segment's start, and where it starts and ends within the block. -/
abbrev First :=
  Σ' (arg0 : BitVec 32) (v0 : BitVec 32) (v20 : Elt F .i32) (k0_hw1 : k0_chk1 v20) (v22 : Elt F .i32) (k0_hw3 : k0_chk3 v20 v22)
    (v24 : Elt F .i32) (k0_hw2 : k0_chk2 i v24) (v26 : BitVec 32) (v32 : BitVec 32) (c8_i32 : BitVec 32) (v33 : BitVec 32), BitVec 32

/-- Those values, from the two segments, and the first one's start and end. -/
def first (lo hi g e : BitVec 32) (h1 : k0_chk1 lo) (h3 : k0_chk3 lo hi) (h2 : k0_chk2 i g) : First (F := F) i :=
  ⟨BitVec.ofNat 32 (i 0).val, rowStart i, lo, h1, hi, h3, g, h2, relStart (rowStart i) g, relEnd (rowStart i) e, 8#32,
    Scalar.divsi (relStart (rowStart i) g) 8#32, 0#32⟩

omit c in
theorem first_eq {lo hi g e lo' hi' g' e' : BitVec 32} {h1 h3 h2} {h1' h3' h2'} (e1 : lo' = lo) (e2 : hi' = hi) (e3 : g' = g)
    (e4 : e' = e) : first (F := F) i lo hi g e h1 h3 h2 = first (F := F) i lo' hi' g' e' h1' h3' h2' := by
  subst e1 e2 e3 e4; rfl

theorem part5_run (p : Pt F) (lo hi : BitVec 32) (hs : Seg lo hi p.a p.b)
    (f1 : Bf F c arg1) (f2 : Bf F c arg2) (f3 : Bf F c arg3) (f4 : Bf F c arg4) (f6 : Bf F c arg6)
    (f7 : Bf F c arg7) (f8 : Bf F c arg8) (f10 : Bf F c arg10) (f11 : Bf F c arg11)
    (hlo : ∀ x, View.readAt (Elt F) arg1.view (Rect.unit (s := S25) (k0_off1 i) S1.size (k0_off1_inb i)).toLoadRect f1 x = lo)
    (hhi : ∀ x, View.readAt (Elt F) arg2.view (Rect.unit (s := S25) (k0_off1 i) S1.size (k0_off1_inb i)).toLoadRect f2 x = hi)
    (hf3 : arg3.view.read (Elt F) f3 = words (F := F) p.G)
    (h1 : k0_chk1 lo) (h3 : k0_chk3 lo hi) (h2 : k0_chk2 i (BitVec.ofNat 32 (p.G p.a)))
    :
    iprop(pt c arg1 f1 ∗ pt c arg2 f2 ∗ pt c arg3 f3 ∗ pt c arg4 f4 ∗ pt c arg6 f6 ∗ pt c arg7 f7 ∗ pt c arg8 f8
        ∗ pt c arg10 f10 ∗ pt c arg11 f11)
      ⊢ wp frame (wpE (defs₀ (F := F)) Variants.none c none) Set.univ
      (k0_part5 i arg1 harg1 arg2 harg2 arg3 harg3 arg4 harg4 arg5 harg5 arg6 harg6 arg7 harg7 arg8 harg8 arg9 harg9 arg10 harg10
        arg11 harg11)
      (fun r => iprop(⌜r = first i lo hi (BitVec.ofNat 32 (p.G p.a)) (BitVec.ofNat 32 (p.G (p.a + 1))) h1 h3 h2⌝
        ∗ (pt c arg1 f1 ∗ pt c arg2 f2 ∗ pt c arg3 f3 ∗ pt c arg4 f4 ∗ pt c arg6 f6 ∗ pt c arg7 f7 ∗ pt c arg8 f8)
        ∗ (∃ g, pt c arg10 g ∗ ⌜arg10.view.read (Elt F) g = (if (i 0).val = 0 then k0_pay15 else arg10.view.read (Elt F) f10)⌝)
        ∗ (∃ g, pt c arg11 g ∗ ⌜arg11.view.read (Elt F) g = VecWindow.put (arg11.view.read (Elt F) f11) ![0, 0] S2000x1024.size
            (k0_pay16 (arg4.view.read (Elt F) f4) (arg6.view.read (Elt F) f6) (arg7.view.read (Elt F) f7)
              (arg8.view.read (Elt F) f8))⌝))) := by
  simp only [k0_part5_eq_skeleton]
  unfold k0_part5_skel
  have w2 : ∀ x inb y, View.readAt (Elt F) arg3.view (Rect.unit (s := S513) (k0_off2 (View.readAt (Elt F) arg1.view
      (Rect.unit (s := S25) (k0_off1 i) S1.size (k0_off1_inb i)).toLoadRect f1 x)) S1.size inb).toLoadRect f3 y
        = BitVec.ofNat 32 (p.G p.a) := fun x inb y => word_at c arg3 hf3 inb ((congrArg k0_off2 (hlo x)).trans (off2 hs)) y
  have w3 : ∀ x inb y, View.readAt (Elt F) arg3.view (Rect.unit (s := S513) (k0_off3 (View.readAt (Elt F) arg1.view
      (Rect.unit (s := S25) (k0_off1 i) S1.size (k0_off1_inb i)).toLoadRect f1 x)) S1.size inb).toLoadRect f3 y
        = BitVec.ofNat 32 (p.G (p.a + 1)) := fun x inb y => word_at c arg3 hf3 inb ((congrArg k0_off3 (hlo x)).trans (off3 hs)) y
  by_cases hc : (Scalar.cmpi .ne (Scalar.extui (Scalar.cmpi .eq (BitVec.ofNat 32 (i 0).val) 0#32) : BitVec 32) 0#32 = 1#1)
  all_goals
    iintro ⟨H1, H2, H3, H4, H6, H7, H8, H10, H11⟩
    sl_exec (disch := first
      | ((with_reducible refine chk1_of h1 ?_); exact hlo _)
      | ((with_reducible refine chk3_of h3 ?_ ?_); exact hlo _; exact hhi _)
      | ((with_reducible refine chk2_of _ h2 ?_); exact w2 _ _ _))
    sl_step
    isplitr
    · ipureintro
      exact (first_eq (F := F) i (hlo _) (hhi _) (w2 _ _ _) (w3 _ _ _)).symm
    isplitl [H1 H2 H3 H4 H6 H7 H8]
    · isplitl [H1]; · iexact H1
      isplitl [H2]; · iexact H2
      isplitl [H3]; · iexact H3
      isplitl [H4]; · iexact H4
      isplitl [H6]; · iexact H6
      isplitl [H7]; · iexact H7
      iexact H8
    isplitl [H10]
  · iexists _
    isplitl [H10]; · iexact H10
    ipureintro
    rw [if_pos ((isFirst i).1 hc)]
    exact View.read_writes_full ..
  · iexists _
    isplitl [H11]; · iexact H11
    ipureintro
    refine (View.read_writes_cons_put _ _ _ _ _ rfl).trans ?_
    rw [View.writes_nil, View.readAt_full, View.readAt_full, View.readAt_full, View.readAt_full]
  · iexists _
    isplitl [H10]; · iexact H10
    ipureintro
    rw [if_neg (fun h => hc ((isFirst i).2 h))]
  · iexists _
    isplitl [H11]; · iexact H11
    ipureintro
    refine (View.read_writes_cons_put _ _ _ _ _ rfl).trans ?_
    rw [View.writes_nil, View.readAt_full, View.readAt_full, View.readAt_full, View.readAt_full]

theorem part6_run (p : Pt F) (lo hi : BitVec 32) (hs : Seg lo hi p.a p.b) (hG : Starts p.G p.t p.b) (ht : p.t = (i 0).val)
    (f10 : Bf F c arg10) (f11 : Bf F c arg11) (hf11 : arg11.view.read (Elt F) f11 = p.Z)
    (h1 : k0_chk1 lo) (h2 : k0_chk2 i (BitVec.ofNat 32 (p.G p.a))) :
    iprop(pt c arg10 f10 ∗ pt c arg11 f11)
      ⊢ wp frame (wpE (defs₀ (F := F)) Variants.none c none) Set.univ
      (k0_part6 i arg1 harg1 arg2 harg2 arg3 harg3 arg4 harg4 arg5 harg5 arg6 harg6 arg7 harg7 arg8 harg8 arg9 harg9 arg10 harg10
        arg11 harg11 lo h1 hi (BitVec.ofNat 32 (p.G p.a)) h2 (relStart (rowStart i) (BitVec.ofNat 32 (p.G p.a)))
        (relEnd (rowStart i) (BitVec.ofNat 32 (p.G (p.a + 1)))) 8#32
        (Scalar.divsi (relStart (rowStart i) (BitVec.ofNat 32 (p.G p.a))) 8#32) 0#32)
      (fun r => iprop((∃ g, pt c arg10 g ∗ ⌜(arg10.view.read (Elt F) g, r.1) = p.trips (arg10.view.read (Elt F) f10) 0⌝)
        ∗ pt c arg11 f11)) := by
  have hle := hs.le
  have hlt := hs.lt
  have b1 := hG.le p.a (by omega)
  have n1 := ht ▸ hG.near _ hle
  have h0 : rowStart i = BitVec.ofNat 32 (2000 * p.t) := by rw [ht]; exact rowStart_nat i
  simp only [k0_part6_eq_skeleton]
  unfold k0_part6_skel
  iintro ⟨H10, H11⟩
  sl_exec
  sl_step
  isplitl [H10]
  · iexists _
    isplitl [H10]; · iexact H10
    ipureintro
    refine Prod.ext ?_ ?_
    · refine (View.read_writes_cons_put _ _ _ _ _ (off5 hs)).trans ?_
      rw [View.writes_nil]
      refine congrArg (VecWindow.put (arg10.view.read (Elt F) f10) _ _) ?_
      exact winRow_head p h0 rfl rfl (hf11 ▸ win_at c arg11 _ (ht ▸ off8_word i rfl b1) (ht ▸ win_inb n1))
        (row_at c arg10 _ (off5 hs) (by omega))
    · exact over_eq p h0 rfl rfl
  · iexact H11

theorem loop1_run (p : Pt F) (lo hi : BitVec 32) (hs : Seg lo hi p.a p.b) (hG : Starts p.G p.t p.b) (ht : p.t = (i 0).val)
    (O : Vec F S512x1024 .f32) (f3 : Bf F c arg3) (f10 : Bf F c arg10) (f11 : Bf F c arg11)
    (hf3 : arg3.view.read (Elt F) f3 = words (F := F) p.G) (hf11 : arg11.view.read (Elt F) f11 = p.Z)
    (h3 : k0_chk3 lo hi) (init : BitVec 32) (h0 : (arg10.view.read (Elt F) f10, init) = p.trips O 0) :
    iprop(pt c arg3 f3 ∗ pt c arg10 f10 ∗ pt c arg11 f11)
      ⊢ wp frame (wpE (defs₀ (F := F)) Variants.none c none) Set.univ
      (Scf.Loop.for (k0_t1_loop lo hi) (k0_t1_ok lo hi h3) init (k0_t1_body i arg1 harg1 arg2 harg2 arg3 harg3 arg4 harg4 arg5 harg5
        arg6 harg6 arg7 harg7 arg8 harg8 arg9 harg9 arg10 harg10 arg11 harg11 (rowStart i) lo hi h3))
      (fun r => iprop(pt c arg3 f3 ∗ (∃ g, pt c arg10 g ∗ ⌜(arg10.view.read (Elt F) g, r) = p.trips O ((p.b - p.a + 1) / 2)⌝)
        ∗ pt c arg11 f11)) := by
  have step : ∀ (k : Fin (k0_t1_loop lo hi).trips) (acc : BitVec 32),
      iprop(pt c arg3 f3 ∗ (∃ g, pt c arg10 g ∗ ⌜(arg10.view.read (Elt F) g, acc) = p.trips O k⌝) ∗ pt c arg11 f11)
        ⊢ wp frame (wpE (defs₀ (F := F)) Variants.none c none) Set.univ
          (k0_t1_body i arg1 harg1 arg2 harg2 arg3 harg3 arg4 harg4 arg5 harg5
            arg6 harg6 arg7 harg7 arg8 harg8 arg9 harg9 arg10 harg10 arg11 harg11 (rowStart i) lo hi h3 k acc)
          (fun r => iprop(pt c arg3 f3 ∗ (∃ g, pt c arg10 g ∗ ⌜(arg10.view.read (Elt F) g, r) = p.trips O (k + 1)⌝)
            ∗ pt c arg11 f11)) := by
    intro k acc
    iintro ⟨H3, ⟨%g, H10, %hg⟩, H11⟩
    have e : p.trips O (k + 1) = p.trip k (arg10.view.read (Elt F) g, acc) := by rw [hg]; rfl
    rw [e]
    iapply (trip1 c i arg1 harg1 arg2 harg2 arg3 harg3 arg4 harg4 arg5 harg5
            arg6 harg6 arg7 harg7 arg8 harg8 arg9 harg9 arg10 harg10 arg11 harg11 p lo hi hs hG ht h3 k acc f3 g f11 hf3 hf11)
    isplitl [H3]; · iexact H3
    isplitl [H10]; · iexact H10
    iexact H11
  iintro ⟨H3, H10, H11⟩
  iapply (Scf.wp_for frame (wpE (defs₀ (F := F)) Variants.none c none) Set.univ _ _ _ (k0_t1_ok lo hi h3) init _
    (fun n acc => iprop(pt c arg3 f3 ∗ (∃ g, pt c arg10 g ∗ ⌜(arg10.view.read (Elt F) g, acc) = p.trips O n⌝) ∗ pt c arg11 f11)) step)
  isplitl [H3 H10 H11]
  · isplitl [H3]; · iexact H3
    isplitl [H10]
    · iexists f10
      isplitl [H10]; · iexact H10
      ipureintro; exact h0
    iexact H11
  · iintro %acc H
    have e := t1_trips hs
    rw [show Scf.trips (k0_t1_loop lo hi).lb (k0_t1_loop lo hi).ub (k0_t1_loop lo hi).st = (p.b - p.a + 1) / 2 from e]
    iexact H

/-- The loop for a leftover trip runs none: the other loop has gone over all of them. -/
theorem loop2_run (p : Pt F) (lo hi : BitVec 32) (hs : Seg lo hi p.a p.b) (h3 : k0_chk3 lo hi) (init v99 : BitVec 32) (P : sProp 𝕄) :
    P ⊢ wp frame (wpE (defs₀ (F := F)) Variants.none c none) Set.univ
      (Scf.Loop.for (k0_t2_loop lo hi) (k0_t2_ok lo hi h3) init (k0_t2_body i arg1 harg1 arg2 harg2 arg3 harg3 arg4 harg4 arg5 harg5
        arg6 harg6 arg7 harg7 arg8 harg8 arg9 harg9 arg10 harg10 arg11 harg11 (rowStart i) lo hi h3 v99))
      (fun r => iprop(⌜r = init⌝ ∗ P)) := by
  refine Scf.wp_for0' _ _ _ _ _ _ _ _ _ (t2_trips hs) _ _ ?_
  iintro HP
  isplitr
  · ipureintro; rfl
  · iexact HP

/-- And likewise after the loop over the whole block. -/
theorem loop4_run (p : Pt F) (lo hi : BitVec 32) (hs : Seg lo hi p.a p.b) (v101 : BitVec 32) (h8 : k0_chk8 lo hi v101)
    (hc : k0_cond2 v101 = 1#1) (seg : Vec F S2000x1 .i32) (z : Vec F S2000x1024 .f32) (P : sProp 𝕄) :
    P ⊢ wp frame (wpE (defs₀ (F := F)) Variants.none c none) Set.univ
      (Scf.Loop.for (k0_t4_loop lo hi) (k0_t4_ok lo hi v101 h8 hc) ⟨⟩ (k0_t4_body i arg1 harg1 arg2 harg2 arg3 harg3 arg4 harg4 arg5 harg5
        arg6 harg6 arg7 harg7 arg8 harg8 arg9 harg9 arg10 harg10 arg11 harg11 lo hi v101 h8 hc seg z))
      (fun _ => P) :=
  Scf.wp_for0' _ _ _ _ _ _ _ _ _ (t4_trips hs) _ _ .rfl

theorem loop3_run' (p : Pt F) (lo hi : BitVec 32) (hs : Seg lo hi p.a p.b) (v101 : BitVec 32) (h8 : k0_chk8 lo hi v101)
    (hc : k0_cond2 v101 = 1#1) (f10 : Bf F c arg10) :
    iprop(pt c arg10 f10)
      ⊢ wp frame (wpE (defs₀ (F := F)) Variants.none c none) Set.univ
      (Scf.Loop.for (k0_t3_loop lo hi) (k0_t3_ok lo hi v101 h8 hc) ⟨⟩ (k0_t3_body i arg1 harg1 arg2 harg2 arg3 harg3 arg4 harg4 arg5 harg5
        arg6 harg6 arg7 harg7 arg8 harg8 arg9 harg9 arg10 harg10 arg11 harg11 lo hi v101 h8 hc p.seg (rows2000 p.Z)))
      (fun _ => iprop(∃ g, pt c arg10 g ∗ ⌜arg10.view.read (Elt F) g = p.fulls (arg10.view.read (Elt F) f10) (p.b + 1 - p.a)⌝)) := by
  have step : ∀ (k : Fin (k0_t3_loop lo hi).trips) (acc : Unit),
      iprop(∃ g, pt c arg10 g ∗ ⌜arg10.view.read (Elt F) g = p.fulls (arg10.view.read (Elt F) f10) k⌝)
        ⊢ wp frame (wpE (defs₀ (F := F)) Variants.none c none) Set.univ
          (k0_t3_body i arg1 harg1 arg2 harg2 arg3 harg3 arg4 harg4 arg5 harg5
            arg6 harg6 arg7 harg7 arg8 harg8 arg9 harg9 arg10 harg10 arg11 harg11 lo hi v101 h8 hc p.seg (rows2000 p.Z) k acc)
          (fun _ => iprop(∃ g, pt c arg10 g ∗ ⌜arg10.view.read (Elt F) g = p.fulls (arg10.view.read (Elt F) f10) (k + 1)⌝)) := by
    intro k acc
    iintro ⟨%g, H10, %hg⟩
    have e : p.fulls (arg10.view.read (Elt F) f10) (k + 1) = setRow (arg10.view.read (Elt F) g) (p.a + k)
        (p.fullRow (BitVec.ofNat 32 (p.a + k)) (rowAt (arg10.view.read (Elt F) g) (p.a + k))) := by rw [hg]; rfl
    rw [e]
    iapply (trip3 c i arg1 harg1 arg2 harg2 arg3 harg3 arg4 harg4 arg5 harg5
            arg6 harg6 arg7 harg7 arg8 harg8 arg9 harg9 arg10 harg10 arg11 harg11 p lo hi hs v101 h8 hc k acc g)
    iexact H10
  iintro H10
  iapply (Scf.wp_for frame (wpE (defs₀ (F := F)) Variants.none c none) Set.univ _ _ _ (k0_t3_ok lo hi v101 h8 hc) ⟨⟩ _
    (fun n acc => iprop(∃ g, pt c arg10 g ∗ ⌜arg10.view.read (Elt F) g = p.fulls (arg10.view.read (Elt F) f10) n⌝)) step)
  isplitl [H10]
  · iexists f10
    isplitl [H10]; · iexact H10
    ipureintro; rfl
  · iintro %acc H
    have e := t3_trips hs
    rw [show Scf.trips (k0_t3_loop lo hi).lb (k0_t3_loop lo hi).ub (k0_t3_loop lo hi).st = p.b + 1 - p.a from e]
    iexact H

theorem loop3_run (p : Pt F) (lo hi : BitVec 32) (hs : Seg lo hi p.a p.b) (v101 : BitVec 32) (h8 : k0_chk8 lo hi v101)
    (hc : k0_cond2 v101 = 1#1) (seg : Vec F S2000x1 .i32) (z : Vec F S2000x1024 .f32) (hseg : seg = p.seg) (hz : z = rows2000 p.Z)
    (f10 : Bf F c arg10) :
    iprop(pt c arg10 f10)
      ⊢ wp frame (wpE (defs₀ (F := F)) Variants.none c none) Set.univ
      (Scf.Loop.for (k0_t3_loop lo hi) (k0_t3_ok lo hi v101 h8 hc) ⟨⟩ (k0_t3_body i arg1 harg1 arg2 harg2 arg3 harg3 arg4 harg4 arg5 harg5
        arg6 harg6 arg7 harg7 arg8 harg8 arg9 harg9 arg10 harg10 arg11 harg11 lo hi v101 h8 hc seg z))
      (fun _ => iprop(∃ g, pt c arg10 g ∗ ⌜arg10.view.read (Elt F) g = p.fulls (arg10.view.read (Elt F) f10) (p.b + 1 - p.a)⌝)) := by
  subst hseg hz
  exact loop3_run' c i arg1 harg1 arg2 harg2 arg3 harg3 arg4 harg4 arg5 harg5
        arg6 harg6 arg7 harg7 arg8 harg8 arg9 harg9 arg10 harg10 arg11 harg11 p lo hi hs v101 h8 hc f10

end First

end Cert.SegPool

end
-- ==== Proof.Point.lean ====
module

public import proofs.«01_k».proof.Proof.Body

/-!
# One grid point, whole

The kernel's body, run from its eleven arrays at given contents: it returns with the result window at `Pt.out` and every input as
it was. The parts are those of `Body`, put one after the other.
-/

@[expose] public section

noncomputable section

namespace Cert.SegPool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .smem S25 .i32) (harg1 : arg1.IsWhole) (arg2 : Memref sig .tc .smem S25 .i32) (harg2 : arg2.IsWhole)
  (arg3 : Memref sig .tc .smem S513 .i32) (harg3 : arg3.IsWhole) (arg4 : Memref sig .tc .vmem S2000x256 .f32) (harg4 : arg4.IsWhole)
  (arg5 : Memref sig .tc .vmem S2000x1 .i32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S2144x1024 .f32) (harg11 : arg11.IsWhole)

/-- A program followed by another: what the first leaves, the second starts from. -/
theorem wp_then {α β : Type} {P : sProp 𝕄} {q : Prog (TpuEff nD τ sig (Elt F) Λ₀ .tc) α} {Q : α → sProp 𝕄}
    (h : P ⊢ wp frame (wpE (defs₀ (F := F)) Variants.none c none) Set.univ q Q) (k : α → Prog (TpuEff nD τ sig (Elt F) Λ₀ .tc) β)
    (Q' : β → sProp 𝕄) :
    P ⊢ iprop((∀ a, Q a -∗ wp frame (wpE (defs₀ (F := F)) Variants.none c none) Set.univ (k a) Q')
      -∗ wp frame (wpE (defs₀ (F := F)) Variants.none c none) Set.univ (q >>= k) Q') := by
  rw [wp_bind]
  exact h.trans (wp_wand _ _ _)

theorem first_2000 (Z : Vec F S2144x1024 .f32) (inb) : VecWindow.window Z ![0, 0] S2000x1024.size inb = rows2000 Z := by
  funext j
  refine congrArg Z (funext fun d => Fin.ext ?_)
  fin_cases d
  · show 0 + 1 * (j 0).val = (j 0).val % 2144
    have : (j 0).val < 2000 := (j 0).isLt
    omega
  · show 0 + 1 * (j 1).val = (j 1).val
    omega

omit c i in
theorem out_last {p : Pt F} {b2 : Vec F S1x1024 .f32} {O M : Vec F S512x1024 .f32} (ht : p.t = 24)
    (hM : p.merged (if p.t = 0 then k0_pay15 else O) = M) : k0_pay6 M b2 = p.out b2 O := by
  unfold Pt.out; rw [hM, if_pos ht]

omit c i in
theorem out_else {p : Pt F} {b2 : Vec F S1x1024 .f32} {O M : Vec F S512x1024 .f32} (ht : ¬p.t = 24)
    (hM : p.merged (if p.t = 0 then k0_pay15 else O) = M) : M = p.out b2 O := by
  unfold Pt.out; rw [hM, if_neg ht]

/-- One grid point: from its windows and scratch held at given contents, the body returns with the inputs as they were and the
    result at `Pt.out`. -/
theorem kernelRun (p : Pt F) (lo hi : BitVec 32) (hs : Seg lo hi p.a p.b) (hG : Starts p.G p.t p.b) (ht : p.t = (i 0).val)
    (f1 : Bf F c arg1) (f2 : Bf F c arg2) (f3 : Bf F c arg3) (f4 : Bf F c arg4) (f5 : Bf F c arg5) (f6 : Bf F c arg6)
    (f7 : Bf F c arg7) (f8 : Bf F c arg8) (f9 : Bf F c arg9) (f10 : Bf F c arg10) (f11 : Bf F c arg11)
    (hlo : ∀ x, View.readAt (Elt F) arg1.view (Rect.unit (s := S25) (k0_off1 i) S1.size (k0_off1_inb i)).toLoadRect f1 x = lo)
    (hhi : ∀ x, View.readAt (Elt F) arg2.view (Rect.unit (s := S25) (k0_off1 i) S1.size (k0_off1_inb i)).toLoadRect f2 x = hi)
    (hf3 : arg3.view.read (Elt F) f3 = words (F := F) p.G) (hf5 : arg5.view.read (Elt F) f5 = p.seg)
    (hZ : p.Z = VecWindow.put (arg11.view.read (Elt F) f11) ![0, 0] S2000x1024.size
            (k0_pay16 (arg4.view.read (Elt F) f4) (arg6.view.read (Elt F) f6) (arg7.view.read (Elt F) f7)
              (arg8.view.read (Elt F) f8))) :
    iprop(pt c arg1 f1 ∗ pt c arg2 f2 ∗ pt c arg3 f3 ∗ pt c arg4 f4 ∗ pt c arg5 f5 ∗ pt c arg6 f6 ∗ pt c arg7 f7 ∗ pt c arg8 f8
        ∗ pt c arg9 f9 ∗ pt c arg10 f10 ∗ pt c arg11 f11) ⊢ wp frame (wpE (defs₀ (F := F)) Variants.none c none) Set.univ
      (cc0__body i arg1 harg1 arg2 harg2 arg3 harg3 arg4 harg4 arg5 harg5 arg6 harg6 arg7 harg7 arg8 harg8 arg9 harg9 arg10 harg10
        arg11 harg11) (fun _ => iprop((pt c arg1 f1 ∗ pt c arg2 f2 ∗ pt c arg3 f3 ∗ pt c arg4 f4 ∗ pt c arg5 f5 ∗ pt c arg6 f6
          ∗ pt c arg7 f7 ∗ pt c arg8 f8 ∗ pt c arg9 f9)
        ∗ (∃ g, pt c arg10 g ∗ ⌜arg10.view.read (Elt F) g = p.out (arg9.view.read (Elt F) f9) (arg10.view.read (Elt F) f10)⌝)
        ∗ (∃ g, pt c arg11 g))) := by
  have hle := hs.le
  have hlt := hs.lt
  have h1 := chk1 hs
  have h3 := chk3 hs
  have h2 : k0_chk2 i (BitVec.ofNat 32 (p.G p.a)) := chk2 (hG.le p.a (by omega)) (ht ▸ hG.near _ hle)
  simp only [cc0__body_eq_skeleton]
  unfold cc0__body_skel
  iintro ⟨H1, H2, H3, H4, H5, H6, H7, H8, H9, H10, H11⟩
  iapply (wp_then c (part5_run c i arg1 harg1 arg2 harg2 arg3 harg3 arg4 harg4 arg5 harg5 arg6 harg6 arg7 harg7 arg8 harg8 arg9 harg9
    arg10 harg10 arg11 harg11 p lo hi hs f1 f2 f3 f4 f6 f7 f8 f10 f11 hlo hhi hf3 h1 h3 h2) _ _) $$ [H1 H2 H3 H4 H6 H7 H8 H10 H11]
  · isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H10]; · iexact H10
    iexact H11
  iintro %r ⟨%hr, ⟨H1, H2, H3, H4, H6, H7, H8⟩, ⟨%g10, H10, %hg10⟩, ⟨%g11, H11, %hg11⟩⟩
  subst hr
  rw [← hZ] at hg11
  iapply (wp_then c (part6_run c i arg1 harg1 arg2 harg2 arg3 harg3 arg4 harg4 arg5 harg5 arg6 harg6 arg7 harg7 arg8 harg8 arg9 harg9
    arg10 harg10 arg11 harg11 p lo hi hs hG ht g10 g11 hg11 h1 h2) _ _) $$ [H10 H11]
  · isplitl [H10]; · iexact H10
    iexact H11
  iintro %r ⟨⟨%g10', H10, %hg10'⟩, H11⟩
  iapply (wp_then c (loop1_run c i arg1 harg1 arg2 harg2 arg3 harg3 arg4 harg4 arg5 harg5 arg6 harg6 arg7 harg7 arg8 harg8 arg9 harg9
    arg10 harg10 arg11 harg11 p lo hi hs hG ht _ f3 g10' g11 hf3 hg11 h3 r.1 hg10') _ _) $$ [H3 H10 H11]
  · isplitl [H3]; · iexact H3
    isplitl [H10]; · iexact H10
    iexact H11
  iintro %acc ⟨H3, ⟨%q10, H10, %hq10⟩, H11⟩
  iapply (wp_then c (loop2_run c i arg1 harg1 arg2 harg2 arg3 harg3 arg4 harg4 arg5 harg5 arg6 harg6 arg7 harg7 arg8 harg8 arg9 harg9
    arg10 harg10 arg11 harg11 p lo hi hs h3 acc _ _) _ _) $$ [H10]
  · iexact H10
  iintro %acc' ⟨%hacc, H10⟩
  subst hacc
  have hm : ∀ M, (if k0_cond2 acc' = 1#1 then p.fulls (arg10.view.read (Elt F) q10) (p.b + 1 - p.a) else arg10.view.read (Elt F) q10) = M →
      p.merged (if p.t = 0 then k0_pay15 else arg10.view.read (Elt F) f10) = M := by
    intro M hM
    rw [ht, ← hg10]
    unfold Pt.merged
    rw [← hq10]
    exact hM
  by_cases hc : k0_cond2 acc' = 1#1
  · sl_exec (disch := exact chk8 hs _)
    iapply (wp_then c (loop3_run c i arg1 harg1 arg2 harg2 arg3 harg3 arg4 harg4 arg5 harg5 arg6 harg6 arg7 harg7 arg8 harg8 arg9 harg9
      arg10 harg10 arg11 harg11 p lo hi hs acc' (chk8 hs _) hc
      (View.readAt (Elt F) arg5.view (Rect.unit (s := S2000x1) ![0, 0] S2000x1.size inb_S2000x1_S2000x1_0_0).toLoadRect f5)
      (View.readAt (Elt F) arg11.view (Rect.unit (s := S2144x1024) ![0, 0] S2000x1024.size inb_S2144x1024_S2000x1024_0_0).toLoadRect g11)
      (by rw [View.readAt_full, hf5])
      (by rw [View.readAt_unit _ _ _ rfl inb_S2144x1024_S2000x1024_0_0, hg11]; exact first_2000 _ _) q10) _ _) $$ [H10]
    · iexact H10
    iintro %_ ⟨%r10, H10, %hr10⟩
    iapply (wp_then c (loop4_run c i arg1 harg1 arg2 harg2 arg3 harg3 arg4 harg4 arg5 harg5 arg6 harg6 arg7 harg7 arg8 harg8 arg9 harg9
      arg10 harg10 arg11 harg11 p lo hi hs acc' (chk8 hs _) hc _ _ _) _ _) $$ [H10]
    · iexact H10
    iintro %_ H10
    have hm' := hm _ ((if_pos hc).trans hr10.symm)
    by_cases hl : (Scalar.cmpi .ne (Scalar.extui (Scalar.cmpi .eq (BitVec.ofNat 32 (i 0).val) 24#32) : BitVec 32) 0#32 = 1#1)
    · sl_exec
      sl_step
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitr [H11]; swap
      · iexists _; iexact H11
      iexists _
      isplitl [H10]; · iexact H10
      ipureintro
      refine (View.read_writes_full ..).trans ?_
      rw [View.readAt_full, View.readAt_full]
      exact out_last (ht.trans ((isLast i).1 hl)) hm'
    · sl_exec
      sl_step
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitr [H11]; swap
      · iexists _; iexact H11
      iexists _
      isplitl [H10]; · iexact H10
      ipureintro
      exact out_else (fun h => hl ((isLast i).2 (ht.symm.trans h))) hm'
  · have hm' := hm _ (if_neg hc)
    by_cases hl : (Scalar.cmpi .ne (Scalar.extui (Scalar.cmpi .eq (BitVec.ofNat 32 (i 0).val) 24#32) : BitVec 32) 0#32 = 1#1)
    · sl_exec (disch := exact chk8 hs _)
      sl_step
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitr [H11]; swap
      · iexists _; iexact H11
      iexists _
      isplitl [H10]; · iexact H10
      ipureintro
      refine (View.read_writes_full ..).trans ?_
      rw [View.readAt_full, View.readAt_full]
      exact out_last (ht.trans ((isLast i).1 hl)) hm'
    · sl_exec (disch := exact chk8 hs _)
      sl_step
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitr [H11]; swap
      · iexists _; iexact H11
      iexists _
      isplitl [H10]; · iexact H10
      ipureintro
      exact out_else (fun h => hl ((isLast i).2 (ht.symm.trans h))) hm'

end Cert.SegPool

end
-- ==== Proof.Mask.lean ====
/-
  The rows a window's mask keeps, and what follows: the rows of the scratch array past the block's own 2000 never reach the
  result.
-/
module

public import proofs.«01_k».proof.Proof.Point

@[expose] public section

noncomputable section

namespace Cert.SegPool

open Cert.KernelIdeal Cert.KernelIdeal.Gen
open Idealize.ShloMosaic

variable {F : FTy → Type} [FloatOps F]

theorem sge_nat {a b : ℕ} (ha : a < 2 ^ 31) (hb : b < 2 ^ 31) :
    IntOp.cmpi .sge (BitVec.ofNat 32 a) (BitVec.ofNat 32 b) = BitVec.ofBool (decide (b ≤ a)) := by
  have h : (BitVec.ofNat 32 b).sle (BitVec.ofNat 32 a) = decide (b ≤ a) := by
    rw [BitVec.sle_eq_not_slt, Routing.slt_ofNat32 ha hb, ← decide_not]
    exact decide_eq_decide.mpr not_lt
  exact congrArg BitVec.ofBool h

/-- Row `j` of a window is kept when it lies between the segment's first row and the row after its last. -/
theorem mask_val {t g e : ℕ} (ht : t < 25) (hg : g ≤ 50000) (he : e ≤ 50000) (hr : 2000 * t ≤ e) (j : S144x1024.Idx) :
    k0_pay7 (F := F) (BitVec.ofNat 32 (2000 * t)) (BitVec.ofNat 32 g) (BitVec.ofNat 32 e) j =
      BitVec.ofBool (decide (nStart t g ≤ nStart t g / 8 * 8 + (j 0).val ∧ nStart t g / 8 * 8 + (j 0).val < nEnd t e)) := by
  have hj : (j 0).val < 144 := (j 0).isLt
  have hn : nStart t g ≤ 50000 := by unfold nStart; omega
  have he' : nEnd t e ≤ 2000 := by unfold nEnd; omega
  have hval : k0_pay7 (F := F) (BitVec.ofNat 32 (2000 * t)) (BitVec.ofNat 32 g) (BitVec.ofNat 32 e) j = IntOp.andi
      (IntOp.cmpi .sge (IntOp.addi (winStart (BitVec.ofNat 32 (2000 * t)) (BitVec.ofNat 32 g)) (BitVec.ofNat 32 (j 0).val))
        (relStart (BitVec.ofNat 32 (2000 * t)) (BitVec.ofNat 32 g)))
      (IntOp.cmpi .slt (IntOp.addi (winStart (BitVec.ofNat 32 (2000 * t)) (BitVec.ofNat 32 g)) (BitVec.ofNat 32 (j 0).val))
        (relEnd (BitVec.ofNat 32 (2000 * t)) (BitVec.ofNat 32 e))) := by
    show broadcastTo S144x1024 (shapeCast S144x1 (andi
      (cmpi .sge (addi (broadcast S144x1 (winStart (BitVec.ofNat 32 (2000 * t)) (BitVec.ofNat 32 g))) (iota .tc S144x1 32 [0] iota_S144x1_d0_w32))
        (broadcast S144x1 (relStart (BitVec.ofNat 32 (2000 * t)) (BitVec.ofNat 32 g))))
      (cmpi .slt (addi (broadcast S144x1 (winStart (BitVec.ofNat 32 (2000 * t)) (BitVec.ofNat 32 g))) (iota .tc S144x1 32 [0] iota_S144x1_d0_w32))
        (broadcast S144x1 (relEnd (BitVec.ofNat 32 (2000 * t)) (BitVec.ofNat 32 e)))) : IVec S144x1 1) shapeCasts_S144x1_S144x1)
        broadcasts_S144x1_S144x1024 j = _
    refine (broadcastTo_apply _ broadcasts_S144x1_S144x1024 j (ix2 (n0 := 144) (n1 := 1) (j 0) 0) fun a => ?_).trans ?_
    · fin_cases a <;> rfl
    · rw [shapeCast_self]
      have hi : iota .tc S144x1 32 [0] iota_S144x1_d0_w32 (ix2 (n0 := 144) (n1 := 1) (j 0) 0) = BitVec.ofNat 32 (j 0).val :=
        iota_single_apply .tc S144x1 32 0 _ _
      rw [← hi]
      rfl
  rw [hval]
  rw [winStart_nat ht hg, relStart_nat ht hg, relEnd_nat ht he hr]
  have hadd : IntOp.addi (BitVec.ofNat 32 (nStart t g / 8 * 8)) (BitVec.ofNat 32 (j 0).val)
      = BitVec.ofNat 32 (nStart t g / 8 * 8 + (j 0).val) := (BitVec.ofNat_add _ _).symm
  rw [hadd, sge_nat (by omega) (by omega)]
  have hlt : IntOp.cmpi .slt (BitVec.ofNat 32 (nStart t g / 8 * 8 + (j 0).val)) (BitVec.ofNat 32 (nEnd t e))
      = BitVec.ofBool (decide (nStart t g / 8 * 8 + (j 0).val < nEnd t e)) := slt_nat (by omega) (by omega)
  rw [hlt, Bool.decide_and]
  generalize decide (nStart t g ≤ nStart t g / 8 * 8 + (j 0).val) = p
  generalize decide (nStart t g / 8 * 8 + (j 0).val < nEnd t e) = q
  revert p q; decide

namespace Pt

/-- The point with another scratch array. -/
abbrev withZ (p : Pt F) (Z : Vec F S2144x1024 .f32) : Pt F := { p with Z := Z }

variable (p : Pt F) {Z : Vec F S2144x1024 .f32}

/-- What a point needs of the table of starts for its windows to be right. -/
structure Ok : Prop where
  time : p.t < 25
  le : p.a ≤ p.b
  lt : p.b < 512
  starts : Starts p.G p.t p.b
  far : ∀ s, p.a ≤ s → s ≤ p.b → 2000 * p.t ≤ p.G (s + 1)

variable {p} (h : p.Ok) (hZ : rows2000 p.Z = rows2000 Z)
include hZ

omit h in
theorem row_eq {r : ℕ} (hr : r < 2000) (d : Fin 1024) : p.Z (ix2 (n0 := 2144) (n1 := 1024) ⟨r % 2144, Nat.mod_lt _ (by decide)⟩ d)
    = Z (ix2 (n0 := 2144) (n1 := 1024) ⟨r % 2144, Nat.mod_lt _ (by decide)⟩ d) :=
  congrFun hZ (ix2 (n0 := 2000) (n1 := 1024) ⟨r, hr⟩ d)

include h

theorem winRow_congr {s : ℕ} (h1 : p.a ≤ s) (h2 : s ≤ p.b) : p.winRow s = (p.withZ Z).winRow s := by
  have hlt := h.lt
  have hg := h.starts.le s (by omega)
  have he := h.starts.le (s + 1) (by omega)
  have hr := h.far s h1 h2
  unfold winRow k0_pay9
  have : ∀ x y : FVec F S144x1024 .f32, x = y →
      (shapeCast S1x1024 (multiReduction .maximumf [0] S1024 x 0xFF800000#32 reduces_S144x1024_S1024 (.inl rfl) rfl) shapeCasts_S1024_S1x1024 : FVec F S1x1024 .f32)
      = shapeCast S1x1024 (multiReduction .maximumf [0] S1024 y 0xFF800000#32 reduces_S144x1024_S1024 (.inl rfl) rfl) shapeCasts_S1024_S1x1024 := by
    rintro x _ rfl; rfl
  refine this _ _ (funext fun j => ?_)
  show (if _ = 1#1 then rows144 p.Z _ j else _) = if _ = 1#1 then rows144 Z _ j else _
  rw [mask_val h.time hg he hr j]
  split
  · rename_i hm
    have he' : nEnd p.t (p.G (s + 1)) ≤ 2000 := by unfold nEnd; omega
    have hd : nStart p.t (p.G s) / 8 * 8 + (j 0).val < nEnd p.t (p.G (s + 1)) := by
      by_contra hc
      simp [hc] at hm
    exact row_eq hZ (by omega) (j 1)
  · rfl

theorem trips_congr (O : Vec F S512x1024 .f32) : ∀ n, n ≤ (p.b - p.a + 1) / 2 → p.trips O n = (p.withZ Z).trips O n
  | 0, _ => by
    show (p.head O, _) = ((p.withZ Z).head O, _)
    unfold head
    rw [winRow_congr h hZ le_rfl h.le]
    rfl
  | n + 1, hn => by
    have h1 : s1 p.a n ≤ p.b := by unfold s1; omega
    have h2 : p.a ≤ s2 p.a p.b n := by unfold s2; have := h.le; omega
    show p.trip n (p.trips O n) = (p.withZ Z).trip n ((p.withZ Z).trips O n)
    rw [trips_congr O n (by omega)]
    unfold trip
    rw [winRow_congr h hZ (by unfold s1; omega) h1, winRow_congr h hZ h2 (s2_le _)]
    rfl

omit h in
theorem fulls_congr (O : Vec F S512x1024 .f32) : ∀ n, p.fulls O n = (p.withZ Z).fulls O n
  | 0 => rfl
  | n + 1 => by
    show setRow (p.fulls O n) _ (p.fullRow _ _) = setRow ((p.withZ Z).fulls O n) _ ((p.withZ Z).fullRow _ _)
    rw [fulls_congr O n]
    unfold fullRow
    rw [hZ]

/-- The result depends on the first 2000 rows of the scratch array alone. -/
theorem out_congr (b2 : Vec F S1x1024 .f32) (O : Vec F S512x1024 .f32) : p.out b2 O = (p.withZ Z).out b2 O := by
  have hm : ∀ O, p.merged O = (p.withZ Z).merged O := by
    intro O
    unfold merged
    rw [trips_congr h hZ O _ le_rfl]
    show (if k0_cond2 _ = 1#1 then p.fulls _ _ else _) = (if k0_cond2 _ = 1#1 then (p.withZ Z).fulls _ _ else _)
    rw [fulls_congr hZ]
  unfold out
  rw [hm]

end Pt

/-- The first 2000 rows of the scratch array after the block's rows went in are those rows. -/
theorem rows2000_put (Z : Vec F S2144x1024 .f32) (z : Vec F S2000x1024 .f32) :
    rows2000 (VecWindow.put Z ![0, 0] S2000x1024.size z) = z :=
  (first_2000 _ _).symm.trans (VecWindow.window_put_same Z ![0, 0] S2000x1024.size (by decide) z)

/-- A row just replaced, and every other row as it was. -/
theorem setRow_apply (O : Vec F S512x1024 .f32) {s : ℕ} (p : Vec F S1x1024 .f32) (r : Fin 512) (d : Fin 1024) :
    setRow O s p (ix2 r d) = if r.val = s then p (ix2 (n0 := 1) 0 d) else O (ix2 r d) := by
  unfold setRow VecWindow.put
  by_cases hrs : r.val = s
  · have h : ∀ a : Fin S512x1024.rank, (![s, 0] : Fin 2 → ℕ) a ≤ ((ix2 r d : S512x1024.Idx) a).val
        ∧ ((ix2 r d : S512x1024.Idx) a).val < (![s, 0] : Fin 2 → ℕ) a + S1x1024.size a := by
      intro a
      have := d.isLt
      fin_cases a
      · show s ≤ r.val ∧ r.val < s + 1; omega
      · show 0 ≤ d.val ∧ d.val < 0 + 1024; omega
    rw [dif_pos h, if_pos hrs]
    refine congrArg p (funext fun (a : Fin 2) => Fin.ext ?_)
    fin_cases a
    · show r.val - s = 0; omega
    · show d.val - 0 = d.val; omega
  · rw [if_neg hrs, dif_neg]
    intro h
    have h0 : s ≤ r.val ∧ r.val < s + 1 := h 0
    omega

end Cert.SegPool

end
-- ==== Proof.Owns.lean ====
/-
  One grid point again, its arrays given by what is read through them: whatever the scratch array held, the result window ends
  at `Pt.out`.
-/
module

public import proofs.«01_k».proof.Proof.Mask

@[expose] public section

noncomputable section

namespace Cert.SegPool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Whole
variable (c : Dev nD) {sp : Space} {S : Shape} {e : EltTy} {M : Memref sig .tc sp S e} (h : M.IsWhole)
include h

/-- A whole memref owned at `X` is its array held at some contents that read `X`. -/
theorem owns_pt (X : S.Idx → Elt F e) :
    owns (c : Thread nD τ) M fullShare X ⊢ (iprop(∃ f : Bf F c M, ⌜M.view.read (Elt F) f = X⌝ ∗ pt c M f) : sProp 𝕄) := by
  unfold owns
  rw [h.set_eq_univ]

theorem pt_owns {f : Bf F c M} {X : S.Idx → Elt F e} (hf : M.view.read (Elt F) f = X) :
    (pt c M f : sProp 𝕄) ⊢ owns (c : Thread nD τ) M fullShare X := by
  unfold owns
  rw [h.set_eq_univ]
  iintro H
  iexists f
  isplitr
  · ipureintro; exact hf
  iexact H

end Whole

/-- The number of the grid point, as an offset. -/
theorem off1 (i : grid0.Coords) : k0_off1 i = ![(i 0).val] := by
  have h : (i 0).val < 25 := (i 0).isLt
  show ![(BitVec.ofNat 32 (i 0).val).toNat] = _
  rw [WordArith.toNat_ofNat_of_lt _ (by omega)]

/-- The word the kernel reads at its point's number. -/
theorem word25 (c : Dev nD) (i : grid0.Coords) (M : Memref sig .tc .smem S25 .i32) {f : Bf F c M} {X : IVec S25 32} {w : BitVec 32}
    (hf : M.view.read (Elt F) f = X) (hw : X (ix1 (n0 := 25) (i 0)) = w) (x) :
    View.readAt (Elt F) M.view (Rect.unit (s := S25) (k0_off1 i) S1.size (k0_off1_inb i)).toLoadRect f x = w := by
  subst hf
  refine Eq.trans (congrArg (M.view.read (Elt F) f) (funext fun (a : Fin 1) => Fin.ext ?_)) hw
  obtain rfl : a = 0 := Subsingleton.elim _ _
  have h1 : k0_off1 i 0 = (i 0).val := congrFun (off1 i) 0
  have h2 : (x 0).val < 1 := (x 0).isLt
  show k0_off1 i 0 + 1 * (x 0).val = (i 0).val
  omega

variable (c : Dev nD) (i : grid0.Coords)
  (arg1 : Memref sig .tc .smem S25 .i32) (harg1 : arg1.IsWhole) (arg2 : Memref sig .tc .smem S25 .i32) (harg2 : arg2.IsWhole)
  (arg3 : Memref sig .tc .smem S513 .i32) (harg3 : arg3.IsWhole) (arg4 : Memref sig .tc .vmem S2000x256 .f32) (harg4 : arg4.IsWhole)
  (arg5 : Memref sig .tc .vmem S2000x1 .i32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S2144x1024 .f32) (harg11 : arg11.IsWhole)

/-- What a point's description has to do with the grid point and with what its windows hold. -/
structure Fits (p : Pt F) (X1 X2 : IVec S25 32) (X3 : Vec F S513 .i32) (X4 : Vec F S2000x256 .f32) (X5 : Vec F S2000x1 .i32)
    (X6 : Vec F S256x512 .f32) (X7 : Vec F S1x512 .f32) (X8 : Vec F S512x1024 .f32) : Prop where
  ok : p.Ok
  time : p.t = (i 0).val
  lo : X1 (ix1 (n0 := 25) (i 0)) = BitVec.ofNat 32 p.a
  hi : X2 (ix1 (n0 := 25) (i 0)) = BitVec.ofNat 32 p.b
  table : X3 = words (F := F) p.G
  seg : X5 = p.seg
  rows : rows2000 p.Z = k0_pay16 X4 X6 X7 X8

theorem kernelOwns (p : Pt F) (X1 X2 : IVec S25 32) (X3 : Vec F S513 .i32) (X4 : Vec F S2000x256 .f32) (X5 : Vec F S2000x1 .i32)
    (X6 : Vec F S256x512 .f32) (X7 : Vec F S1x512 .f32) (X8 : Vec F S512x1024 .f32) (X9 : Vec F S1x1024 .f32)
    (X10 : Vec F S512x1024 .f32) (hp : Fits i p X1 X2 X3 X4 X5 X6 X7 X8) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ ∃ f, pt c arg11 f)
      ⊢ wp frame (wpE (defs₀ (F := F)) Variants.none c none) Set.univ
      (cc0__body i arg1 harg1 arg2 harg2 arg3 harg3 arg4 harg4 arg5 harg5 arg6 harg6 arg7 harg7 arg8 harg8 arg9 harg9 arg10 harg10 arg11 harg11)
      (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (p.out X9 X10) ∗ ∃ f, pt c arg11 f)) := by
  obtain ⟨hok, ht, hlo, hhi, h3, h5, hZ⟩ := hp
  refine (BIClass.sep_mono (owns_pt c harg1 X1) (BIClass.sep_mono (owns_pt c harg2 X2) (BIClass.sep_mono (owns_pt c harg3 X3) (BIClass.sep_mono (owns_pt c harg4 X4) (BIClass.sep_mono (owns_pt c harg5 X5) (BIClass.sep_mono (owns_pt c harg6 X6) (BIClass.sep_mono (owns_pt c harg7 X7) (BIClass.sep_mono (owns_pt c harg8 X8) (BIClass.sep_mono (owns_pt c harg9 X9) (BIClass.sep_mono (owns_pt c harg10 X10) .rfl)))))))))).trans ?_
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, H11⟩⟩
  subst e1 e2 e4 e6 e7 e8 e9 e10
  have hrun := kernelRun c i arg1 harg1 arg2 harg2 arg3 harg3 arg4 harg4 arg5 harg5 arg6 harg6 arg7 harg7 arg8 harg8 arg9 harg9 arg10 harg10 arg11 harg11
    (p.withZ (VecWindow.put (arg11.view.read (Elt F) f11) ![0, 0] S2000x1024.size
      (k0_pay16 (arg4.view.read (Elt F) f4) (arg6.view.read (Elt F) f6) (arg7.view.read (Elt F) f7) (arg8.view.read (Elt F) f8))))
    (BitVec.ofNat 32 p.a) (BitVec.ofNat 32 p.b) ⟨rfl, rfl, hok.le, hok.lt⟩ hok.starts ht f1 f2 f3 f4 f5 f6 f7 f8 f9 f10 f11
    (word25 c i arg1 rfl hlo) (word25 c i arg2 rfl hhi) (e3.trans h3) (e5.trans h5) rfl
  rw [← Pt.out_congr hok (hZ.trans (rows2000_put _ _).symm)] at hrun
  iapply (hrun.trans (wp_wand _ _ _)) $$ [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ ⟨⟨H1, H2, H3, H4, H5, H6, H7, H8, H9⟩, ⟨%g10, H10, %hg10⟩, H11⟩
  isplitl [H1]; · iapply (pt_owns c harg1 (f := f1) rfl); iexact H1
  isplitl [H2]; · iapply (pt_owns c harg2 (f := f2) rfl); iexact H2
  isplitl [H3]; · iapply (pt_owns c harg3 (f := f3) e3); iexact H3
  isplitl [H4]; · iapply (pt_owns c harg4 (f := f4) rfl); iexact H4
  isplitl [H5]; · iapply (pt_owns c harg5 (f := f5) e5); iexact H5
  isplitl [H6]; · iapply (pt_owns c harg6 (f := f6) rfl); iexact H6
  isplitl [H7]; · iapply (pt_owns c harg7 (f := f7) rfl); iexact H7
  isplitl [H8]; · iapply (pt_owns c harg8 (f := f8) rfl); iexact H8
  isplitl [H9]; · iapply (pt_owns c harg9 (f := f9) rfl); iexact H9
  isplitl [H10]; · iapply (pt_owns c harg10 (f := g10) hg10); iexact H10
  iexact H11

end Cert.SegPool

end
-- ==== Proof.Batch.lean ====
/-
  The segment numbers of the rows as natural numbers: what the precondition says of them, and what the three integer arrays
  the program computes from them hold.
-/
module

public import proofs.«01_k».proof.Pre_sorted_batch
public import proofs.«01_k».proof.Proof.Trip
public import proofs.«01_k».proof.Proof.Gen.KernelIdeal.Frame
public import Idealize.ShloMosaic.Lib.ReduceAll
public import Idealize.ShloMosaic.Lib.IndicatorCount
public import Idealize.ShloMosaic.Lib.StableHlo.Run

@[expose] public section

noncomputable section

namespace Cert.SegPool

open Cert.KernelIdeal Cert.KernelIdeal.Gen
open Idealize.ShloMosaic Idealize.ShloMosaic.TcCoe

/-- The segment number of row `r`. -/
def num (B : IVec S50000 32) (r : ℕ) : ℕ := (B (ix1 (n0 := 50000) ⟨r % 50000, Nat.mod_lt _ (by decide)⟩)).toNat

/-- The rows' segment numbers are below 512 and do not decrease. -/
structure Sorted (B : IVec S50000 32) : Prop where
  lt : ∀ r, num B r < 512
  mono : ∀ r r', r ≤ r' → r' < 50000 → num B r ≤ num B r'

/-- The precondition, read. -/
theorem sorted_of_pre [Cert.Pre_sorted_batch.Facts] {F : FTy → Type} [FloatOps F] (x0 : FVec F S50000x256 .f32)
    (x1 : FVec F S50000x3 .f32) (B : IVec S50000 32) (x3 : FVec F S256x512 .f32) (x4 : FVec F S512 .f32)
    (x5 : FVec F S512x1024 .f32) (x6 : FVec F S1024 .f32)
    (h : Cert.Pre_sorted_batch.fn (F := F) x0 x1 B x3 x4 x5 x6 = fun _ => 1#1) : Sorted B := by
  have e := congrFun h ix0
  simp only [Cert.Pre_sorted_batch.fn] at e
  obtain ⟨e1, e3⟩ := IntOp.andi_eq_one.mp e
  obtain ⟨e1, e2⟩ := IntOp.andi_eq_one.mp e1
  haveI : Subsingleton (Cert.Pre_sorted_batch.S_).Idx := ⟨fun a b => funext fun d => d.elim0⟩
  have f1 := fun i => IntOp.cmpi_sge.mp (Host.reduce_andi_all _ _ _ _ _ e1 i)
  have f2 := fun i => IntOp.cmpi_slt.mp (Host.reduce_andi_all _ _ _ _ _ e2 i)
  have f3 := fun i => IntOp.cmpi_sle.mp (Host.reduce_andi_all _ _ _ _ _ e3 i)
  have lt : ∀ i, (B i).toNat < 512 ∧ (B i).toInt = ((B i).toNat : ℤ) := fun i => by
    have h1 : (0 : ℤ) ≤ (B i).toInt := f1 i
    have h2 : (B i).toInt < 512 := f2 i
    rw [BitVec.toInt_eq_toNat_cond] at h1 h2 ⊢
    have := (B i).isLt
    split at h1 <;> split at h2 <;> split <;> omega
  have step : ∀ r, r + 1 < 50000 → num B r ≤ num B (r + 1) := fun r hr => by
    have h3 := f3 (ix1 (n0 := 49999) ⟨r, by omega⟩)
    rw [show extractStridedSlice Cert.Pre_sorted_batch.S49999 ![0] B _ (ix1 (n0 := 49999) ⟨r, by omega⟩)
          = B (ix1 (n0 := 50000) ⟨r % 50000, Nat.mod_lt _ (by decide)⟩) from
        congrArg B (funext fun d => Fin.ext (by
          have : d = 0 := Subsingleton.elim _ _
          subst this
          show 0 + r = r % 50000
          omega)),
      show extractStridedSlice Cert.Pre_sorted_batch.S49999 ![1] B _ (ix1 (n0 := 49999) ⟨r, by omega⟩)
          = B (ix1 (n0 := 50000) ⟨(r + 1) % 50000, Nat.mod_lt _ (by decide)⟩) from
        congrArg B (funext fun d => Fin.ext (by
          have : d = 0 := Subsingleton.elim _ _
          subst this
          show 1 + r = (r + 1) % 50000
          omega)), (lt _).2, (lt _).2] at h3
    exact_mod_cast h3
  refine ⟨fun r => (lt _).1, fun r r' hr hr' => ?_⟩
  induction r', hr using Nat.le_induction with
  | base => exact le_rfl
  | succ n hn ih => exact (ih (by omega)).trans (step n hr')

/-! ## Where each segment starts -/

/-- The number of rows whose segment number is below `s`. -/
def starts (B : IVec S50000 32) (s : ℕ) : ℕ := (Finset.univ.filter fun r : Fin 50000 => num B r.val < s).card

theorem starts_le (B : IVec S50000 32) (s : ℕ) : starts B s ≤ 50000 :=
  (Finset.card_le_univ _).trans (by simp)

theorem starts_mono (B : IVec S50000 32) {s s' : ℕ} (h : s ≤ s') : starts B s ≤ starts B s' :=
  Finset.card_le_card fun r hr => by
    simp only [Finset.mem_filter, Finset.mem_univ, true_and] at hr ⊢
    omega

/-- In a sorted batch the rows numbered below `s` are the first `starts B s` ones. -/
theorem lt_starts {B : IVec S50000 32} (h : Sorted B) {r : ℕ} (hr : r < 50000) (s : ℕ) :
    r < starts B s ↔ num B r < s := by
  have card_lt : ∀ n, n ≤ 50000 → (Finset.univ.filter fun q : Fin 50000 => q.val < n).card = n := fun n hn => by
    have e : (Finset.univ.filter fun q : Fin 50000 => q.val < n) = (Finset.univ : Finset (Fin n)).map (Fin.castLEEmb hn) := by
      ext q
      simp only [Finset.mem_filter, Finset.mem_univ, true_and, Finset.mem_map, Fin.castLEEmb_apply]
      exact ⟨fun hq => ⟨⟨q.val, hq⟩, Fin.ext rfl⟩, fun ⟨a, ha⟩ => by rw [← ha]; exact a.isLt⟩
    rw [e, Finset.card_map, Finset.card_univ, Fintype.card_fin]
  constructor
  · intro hlt
    by_contra hn
    refine absurd hlt (not_lt.mpr ?_)
    calc starts B s ≤ (Finset.univ.filter fun q : Fin 50000 => q.val < r).card :=
          Finset.card_le_card fun q hq => by
            simp only [Finset.mem_filter, Finset.mem_univ, true_and] at hq ⊢
            by_contra hqr
            have := h.mono r q.val (by omega) q.isLt
            omega
      _ = r := card_lt r hr.le
  · intro hlt
    calc r < r + 1 := r.lt_succ_self
      _ = (Finset.univ.filter fun q : Fin 50000 => q.val < r + 1).card := (card_lt (r + 1) hr).symm
      _ ≤ starts B s := Finset.card_le_card fun q hq => by
            simp only [Finset.mem_filter, Finset.mem_univ, true_and] at hq ⊢
            have := h.mono q.val r (by omega) hr
            omega

/-- Row `r` is in segment `s` exactly when it lies between the segment's start and the next one's. -/
theorem num_eq_iff {B : IVec S50000 32} (h : Sorted B) {r : ℕ} (hr : r < 50000) (s : ℕ) :
    num B r = s ↔ starts B s ≤ r ∧ r < starts B (s + 1) := by
  have h1 := lt_starts h hr s
  have h2 := lt_starts h hr (s + 1)
  omega

/-- What the kernel's control takes of the segment starts at grid point `t`. -/
theorem starts_at {B : IVec S50000 32} (h : Sorted B) {t : ℕ} (ht : t < 25) :
    Starts (starts B) t (num B (2000 * t + 1999)) where
  le s _ := starts_le B s
  near s hs := by
    by_contra hn
    have := (lt_starts h (r := 2000 * t + 1999) (by omega) s).mp (by omega)
    omega

/-- A segment from the block's first one on ends after the block's first row. -/
theorem starts_far {B : IVec S50000 32} (h : Sorted B) {t s : ℕ} (ht : t < 25) (hs : num B (2000 * t) ≤ s) :
    2000 * t ≤ starts B (s + 1) :=
  ((lt_starts h (r := 2000 * t) (by omega) (s + 1)).mpr (by omega)).le

/-! ## The arrays the program computes -/

section Arrays

variable {F : FTy → Type} [FloatOps F]
variable (m : (ℓ : Loc nD τ sig) → Buf (Elt F) ℓ)

/-- The segment numbers as launched on core `c`. -/
abbrev batch (c : Dev nD) : IVec S50000 32 := m ((c : Thread nD τ).loc main_arg2)

/-- The array of the blocks' first segments. -/
theorem V_lo (c : Dev nD) : V m c main_v0 = Host.slice S25 ![0] ![2000] (batch m c) slicesBy_S50000_S25_0s2000 := by
  show StableHlo.after hostOps0 (fun b => m (c, b)) (Proc.devRef .tc main_v0) = _
  after_results

/-- The array of the blocks' last segments. -/
theorem V_hi (c : Dev nD) : V m c main_v1 = Host.slice S25 ![1999] ![2000] (batch m c) slicesBy_S50000_S25_1999s2000 := by
  show StableHlo.after hostOps0 (fun b => m (c, b)) (Proc.devRef .tc main_v1) = _
  after_results

/-- The segment starts. -/
theorem V_starts (c : Dev nD) (h : Sorted (batch m c)) : (V m c main_v9 : IVec S513 32) = words (F := F) (starts (batch m c)) := by
  show StableHlo.after hostOps0 (fun b => m (c, b)) (Proc.devRef .tc main_v9) = _
  after_results
  funext j
  have hR : S513x50000.Reduces [1] S513 := by decide
  have hone : ∀ k : Fin 50000, cmpi .slt
      (broadcastInDim S513x50000 ![0, 1] bcast_S1x50000_S513x50000_0_1 (broadcastInDim S1x50000 ![1] bcast_S50000_S1x50000_1 (batch m c)))
      (broadcastInDim S513x50000 ![0, 1] bcast_S513x1_S513x50000_0_1 (broadcastInDim S513x1 ![0] bcast_S513_S513x1_0 (iotaInDim S513 32 0)))
      (hR.lift j k) = IntOp.cmpi .slt (batch m c (ix1 (n0 := 50000) ⟨k.val % 50000, Nat.mod_lt _ (by decide)⟩)) (BitVec.ofNat 32 (j 0).val) := fun k => by
    refine congrArg₂ (IntOp.cmpi .slt) (congrArg (batch m c) (funext fun d => Fin.ext ?_)) (congrArg (BitVec.ofNat 32) ?_)
    · obtain rfl : d = 0 := Subsingleton.elim _ _
      exact (show _ = k.val from rfl).trans (Nat.mod_eq_of_lt k.isLt).symm
    · rfl
  refine (Host.reduce_eq_fold_single IntOp.addi _ _ reducesTo_S513x50000_S513_d1 hR h_S_ j).trans ?_
  refine (IndicatorCount.fold_addi_setWidth_eq_card (w := 32) _ _).trans ?_
  refine congrArg (fun n => BitVec.ofNat 32 n) (congrArg Finset.card (Finset.filter_congr fun k _ => ?_))
  have hj : (j 0).val < 513 := (j 0).isLt
  have hb := h.lt k.val
  rw [show _ = _ from hone k, IntOp.cmpi_slt, BitVec.toInt_eq_toNat_of_lt (by unfold num at hb; omega),
    BitVec.toInt_eq_toNat_of_lt (by rw [BitVec.toNat_ofNat]; omega), BitVec.toNat_ofNat,
    Nat.mod_eq_of_lt (a := (j 0).val) (b := 2 ^ 32) (by omega)]
  exact Int.ofNat_lt

/-- The segment numbers as a column. -/
theorem V_seg (c : Dev nD) : V m c main_v10 = shapeCast S50000x1 (batch m c) shapeCasts_S50000_S50000x1 := by
  show StableHlo.after hostOps0 (fun b => m (c, b)) (Proc.devRef .tc main_v10) = _
  after_results
  rfl

/-- The two layers' offsets as rows. -/
theorem V_b1 (c : Dev nD) : V m c main_v11 = shapeCast S1x512 (m ((c : Thread nD τ).loc main_arg4)) shapeCasts_S512_S1x512 := by
  show StableHlo.after hostOps0 (fun b => m (c, b)) (Proc.devRef .tc main_v11) = _
  after_results
  rfl

@[inherit_doc V_b1]
theorem V_b2 (c : Dev nD) : V m c main_v12 = shapeCast S1x1024 (m ((c : Thread nD τ).loc main_arg6)) shapeCasts_S1024_S1x1024 := by
  show StableHlo.after hostOps0 (fun b => m (c, b)) (Proc.devRef .tc main_v12) = _
  after_results
  rfl

end Arrays

end Cert.SegPool

end
-- ==== Proof.Blocks.lean ====
/-
  The blocks each grid point is handed, as parts of the arrays the region finds.
-/
module

public import proofs.«01_k».proof.Proof.Batch
public import Idealize.ShloMosaic.Lib.Pipeline.ValueKit

@[expose] public section

noncomputable section

namespace Cert.SegPool

open Cert.KernelIdeal Cert.KernelIdeal.Gen
open Idealize.ShloMosaic Idealize.ShloMosaic.TcCoe

variable {F : FTy → Type} [FloatOps F]
variable (m : (ℓ : Loc nD τ sig) → Buf (Elt F) ℓ)

/-- Where each window's block sits: only the rows and their segment numbers move with the point. -/
theorem index_at : ∀ t : Fin cfg0.N, win0_0.index t = ![0] ∧ win0_1.index t = ![0] ∧ win0_2.index t = ![0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ (grid0.coords t 0).val = t.val :=
  (by decide +kernel : ∀ t : Fin grid0.N, _)

/-- A block that is its whole array, read, is the array: here for the three integer arrays. -/
theorem read_lo (t : Fin cfg0.N) (A : IVec S25 32) : ((cfg0.win 0).blk t).view.read (Elt F) A = A := by
  funext y
  refine congrArg A (funext fun (a : Fin 1) => Fin.ext ?_)
  have h : win0_0.index t (0 : Fin 1) = 0 := congrFun (index_at t).1 0
  obtain rfl : a = 0 := Subsingleton.elim _ _
  show win0_0.index t (0 : Fin 1) * 25 + 1 * (y 0).val = (y 0).val
  omega

@[inherit_doc read_lo]
theorem read_hi (t : Fin cfg0.N) (A : IVec S25 32) : ((cfg0.win 1).blk t).view.read (Elt F) A = A := by
  funext y
  refine congrArg A (funext fun (a : Fin 1) => Fin.ext ?_)
  have h : win0_1.index t (0 : Fin 1) = 0 := congrFun (index_at t).2.1 0
  obtain rfl : a = 0 := Subsingleton.elim _ _
  show win0_1.index t (0 : Fin 1) * 25 + 1 * (y 0).val = (y 0).val
  omega

@[inherit_doc read_lo]
theorem read_starts (t : Fin cfg0.N) (A : IVec S513 32) : ((cfg0.win 2).blk t).view.read (Elt F) A = A := by
  funext y
  refine congrArg A (funext fun (a : Fin 1) => Fin.ext ?_)
  have h : win0_2.index t (0 : Fin 1) = 0 := congrFun (index_at t).2.2.1 0
  obtain rfl : a = 0 := Subsingleton.elim _ _
  show win0_2.index t (0 : Fin 1) * 513 + 1 * (y 0).val = (y 0).val
  omega

/-- The rows of point `t` are the 2000 from row `2000 t` on. -/
theorem read_x (t : Fin cfg0.N) (A : Vec F S50000x256 .f32) (r : Fin 2000) (k : Fin 256) (hr : 2000 * t.val + r.val < 50000) :
    ((cfg0.win 3).blk t).view.read (Elt F) A (ix2 r k) = A (ix2 (n0 := 50000) ⟨2000 * t.val + r.val, hr⟩ k) := by
  refine congrArg A (funext fun (a : Fin 2) => Fin.ext ?_)
  have h := (index_at t).2.2.2.1
  have h0 : win0_3.index t (0 : Fin 2) = t.val := congrFun h 0
  have h1 : win0_3.index t (1 : Fin 2) = 0 := congrFun h 1
  fin_cases a
  · show win0_3.index t (0 : Fin 2) * 2000 + 1 * r.val = 2000 * t.val + r.val
    omega
  · show win0_3.index t (1 : Fin 2) * 256 + 1 * k.val = k.val
    omega

/-- So are their segment numbers. -/
theorem read_seg (t : Fin cfg0.N) (A : IVec S50000x1 32) (r : Fin 2000) (k : Fin 1) (hr : 2000 * t.val + r.val < 50000) :
    ((cfg0.win 4).blk t).view.read (Elt F) A (ix2 r k) = A (ix2 (n0 := 50000) ⟨2000 * t.val + r.val, hr⟩ k) := by
  refine congrArg A (funext fun (a : Fin 2) => Fin.ext ?_)
  have h := (index_at t).2.2.2.2.1
  have h0 : win0_4.index t (0 : Fin 2) = t.val := congrFun h 0
  have h1 : win0_4.index t (1 : Fin 2) = 0 := congrFun h 1
  fin_cases a
  · show win0_4.index t (0 : Fin 2) * 2000 + 1 * r.val = 2000 * t.val + r.val
    omega
  · show win0_4.index t (1 : Fin 2) * 1 + 1 * k.val = k.val
    omega

/-- The two layers' weights and offsets are handed whole to every point. -/
theorem read_w1 (t : Fin cfg0.N) (A : Vec F S256x512 .f32) : ((cfg0.win 5).blk t).view.read (Elt F) A = A := by
  funext y
  refine congrArg A (funext fun (a : Fin 2) => Fin.ext ?_)
  have h := (index_at t).2.2.2.2.2.1
  have h0 : win0_5.index t (0 : Fin 2) = 0 := congrFun h 0
  have h1 : win0_5.index t (1 : Fin 2) = 0 := congrFun h 1
  fin_cases a
  · show win0_5.index t (0 : Fin 2) * 256 + 1 * (y 0).val = (y 0).val
    omega
  · show win0_5.index t (1 : Fin 2) * 512 + 1 * (y 1).val = (y 1).val
    omega

@[inherit_doc read_w1]
theorem read_b1 (t : Fin cfg0.N) (A : Vec F S1x512 .f32) : ((cfg0.win 6).blk t).view.read (Elt F) A = A := by
  funext y
  refine congrArg A (funext fun (a : Fin 2) => Fin.ext ?_)
  have h := (index_at t).2.2.2.2.2.2.1
  have h0 : win0_6.index t (0 : Fin 2) = 0 := congrFun h 0
  have h1 : win0_6.index t (1 : Fin 2) = 0 := congrFun h 1
  fin_cases a
  · show win0_6.index t (0 : Fin 2) * 1 + 1 * (y 0).val = (y 0).val
    omega
  · show win0_6.index t (1 : Fin 2) * 512 + 1 * (y 1).val = (y 1).val
    omega

@[inherit_doc read_w1]
theorem read_w2 (t : Fin cfg0.N) (A : Vec F S512x1024 .f32) : ((cfg0.win 7).blk t).view.read (Elt F) A = A := by
  funext y
  refine congrArg A (funext fun (a : Fin 2) => Fin.ext ?_)
  have h := (index_at t).2.2.2.2.2.2.2.1
  have h0 : win0_7.index t (0 : Fin 2) = 0 := congrFun h 0
  have h1 : win0_7.index t (1 : Fin 2) = 0 := congrFun h 1
  fin_cases a
  · show win0_7.index t (0 : Fin 2) * 512 + 1 * (y 0).val = (y 0).val
    omega
  · show win0_7.index t (1 : Fin 2) * 1024 + 1 * (y 1).val = (y 1).val
    omega

@[inherit_doc read_w1]
theorem read_b2 (t : Fin cfg0.N) (A : Vec F S1x1024 .f32) : ((cfg0.win 8).blk t).view.read (Elt F) A = A := by
  funext y
  refine congrArg A (funext fun (a : Fin 2) => Fin.ext ?_)
  have h := (index_at t).2.2.2.2.2.2.2.2.1
  have h0 : win0_8.index t (0 : Fin 2) = 0 := congrFun h 0
  have h1 : win0_8.index t (1 : Fin 2) = 0 := congrFun h 1
  fin_cases a
  · show win0_8.index t (0 : Fin 2) * 1 + 1 * (y 0).val = (y 0).val
    omega
  · show win0_8.index t (1 : Fin 2) * 1024 + 1 * (y 1).val = (y 1).val
    omega

/-- The result's block is the whole result. -/
theorem read_out (t : Fin cfg0.N) (A : Vec F S512x1024 .f32) : ((cfg0.win 9).blk t).view.read (Elt F) A = A := by
  funext y
  refine congrArg A (funext fun (a : Fin 2) => Fin.ext ?_)
  have h := (index_at t).2.2.2.2.2.2.2.2.2.1
  have h0 : win0_9.index t (0 : Fin 2) = 0 := congrFun h 0
  have h1 : win0_9.index t (1 : Fin 2) = 0 := congrFun h 1
  fin_cases a
  · show win0_9.index t (0 : Fin 2) * 512 + 1 * (y 0).val = (y 0).val
    omega
  · show win0_9.index t (1 : Fin 2) * 1024 + 1 * (y 1).val = (y 1).val
    omega

/-! ## The blocks of the arrays the region finds -/

theorem blk_lo (c : Dev nD) (t : Fin cfg0.N) : iblk m c 0 t = Host.slice S25 ![0] ![2000] (batch m c) slicesBy_S50000_S25_0s2000 :=
  (read_lo t (V m c main_v0)).trans (V_lo m c)

theorem blk_hi (c : Dev nD) (t : Fin cfg0.N) : iblk m c 1 t = Host.slice S25 ![1999] ![2000] (batch m c) slicesBy_S50000_S25_1999s2000 :=
  (read_hi t (V m c main_v1)).trans (V_hi m c)

theorem blk_starts (c : Dev nD) (h : Sorted (batch m c)) (t : Fin cfg0.N) : iblk m c 2 t = words (F := F) (starts (batch m c)) :=
  (read_starts t (V m c main_v9)).trans (V_starts m c h)

theorem blk_x (c : Dev nD) (t : Fin cfg0.N) (r : Fin 2000) (k : Fin 256) (hr : 2000 * t.val + r.val < 50000) :
    iblk m c 3 t (ix2 r k) = m ((c : Thread nD τ).loc main_arg0) (ix2 (n0 := 50000) ⟨2000 * t.val + r.val, hr⟩ k) :=
  (read_x t (V m c main_arg0) r k hr).trans (congrFun (V_main_arg0 m c) _)

theorem blk_seg (c : Dev nD) (t : Fin cfg0.N) (r : Fin 2000) (k : Fin 1) (hr : 2000 * t.val + r.val < 50000) :
    iblk m c 4 t (ix2 r k) = batch m c (ix1 (n0 := 50000) ⟨2000 * t.val + r.val, hr⟩) := by
  refine (read_seg t (V m c main_v10) r k hr).trans ((congrFun (V_seg m c) _).trans (shapeCast_apply _ _ _ _ ?_))
  rw [Shape.rowMajor_val_one, Shape.rowMajor_val_two]
  have hk : k.val < 1 := k.isLt
  show 2000 * t.val + r.val = (2000 * t.val + r.val) * 1 + k.val
  omega

theorem blk_w1 (c : Dev nD) (t : Fin cfg0.N) : iblk m c 5 t = m ((c : Thread nD τ).loc main_arg3) :=
  (read_w1 t (V m c main_arg3)).trans (V_main_arg3 m c)

theorem blk_b1 (c : Dev nD) (t : Fin cfg0.N) :
    iblk m c 6 t = shapeCast S1x512 (m ((c : Thread nD τ).loc main_arg4)) shapeCasts_S512_S1x512 :=
  (read_b1 t (V m c main_v11)).trans (V_b1 m c)

theorem blk_w2 (c : Dev nD) (t : Fin cfg0.N) : iblk m c 7 t = m ((c : Thread nD τ).loc main_arg5) :=
  (read_w2 t (V m c main_arg5)).trans (V_main_arg5 m c)

theorem blk_b2 (c : Dev nD) (t : Fin cfg0.N) :
    iblk m c 8 t = shapeCast S1x1024 (m ((c : Thread nD τ).loc main_arg6)) shapeCasts_S1024_S1x1024 :=
  (read_b2 t (V m c main_v12)).trans (V_b2 m c)

end Cert.SegPool

end
-- ==== Proof.Run.lean ====
/-
  The whole region: what every window holds at every grid point, the run of the program from any sorted batch of segment
  numbers, and that it leaves the arguments as they were.
-/
module

public import proofs.«01_k».proof.Proof.Owns
public import proofs.«01_k».proof.Proof.Blocks
public import Idealize.ShloMosaic.Lib.Pipeline.FrameBody

@[expose] public section

noncomputable section

namespace Cert.SegPool

open Cert.KernelIdeal Cert.KernelIdeal.Gen
open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (l : Loc nD τ sig) → Buf (Elt F) l) (ρ : Dev nD → PrngReg)

/-- The grid point numbered `n`. -/
def tOf (n : ℕ) : Fin cfg0.N := ⟨n % 25, (Nat.mod_lt n (by decide)).trans_eq N_0.symm⟩

theorem lt25 (t : Fin cfg0.N) : t.val < 25 := t.isLt.trans_eq N_0

theorem tOf_val (t : Fin cfg0.N) : tOf t.val = t := Fin.ext (Nat.mod_eq_of_lt (lt25 t))

/-- What grid point `n` works from. Past the block's own rows the scratch array is given the one value, which nothing reads. -/
def ptOf (c : Dev nD) (n : ℕ) : Pt F where
  t := n
  G := starts (batch m c)
  a := num (batch m c) (2000 * n)
  b := num (batch m c) (2000 * n + 1999)
  seg := iblk m c 4 (tOf n)
  Z := VecWindow.put (fun _ => Scalar.ofBits .f32 0xFF800000#32) ![0, 0] S2000x1024.size
    (k0_pay16 (iblk m c 3 (tOf n)) (iblk m c 5 (tOf n)) (iblk m c 6 (tOf n)) (iblk m c 7 (tOf n)))

/-- The result's block after grid point `n`. -/
def acc (c : Dev nD) : ℕ → Vec F S512x1024 .f32
  | 0 => (ptOf m c 0).out (iblk m c 8 (tOf 0)) k0_pay15
  | n + 1 => (ptOf m c (n + 1)).out (iblk m c 8 (tOf (n + 1))) (acc c n)

/-- What a point leaves, from what it found: the first point clears the block, so what it found is not used. -/
theorem out_zero (p : Pt F) (h : p.t = 0) (b2 : Vec F S1x1024 .f32) (O O' : Vec F S512x1024 .f32) : p.out b2 O = p.out b2 O' := by
  unfold Pt.out
  rw [if_pos h, if_pos h]

variable {m} in
theorem ok_of (c : Dev nD) (hB : Sorted (batch m c)) {n : ℕ} (hn : n < 25) : (ptOf m c n).Ok := by
  refine ⟨hn, ?_, ?_, ?_, ?_⟩
  · exact hB.mono (2000 * n) (2000 * n + 1999) (by omega) (by omega)
  · exact hB.lt (2000 * n + 1999)
  · dsimp only [ptOf]
    exact starts_at hB hn
  · intro s h1 _
    dsimp only [ptOf] at h1 ⊢
    exact starts_far (B := batch m c) (t := n) (s := s) hB hn h1

/-- The window of the first segments, at the point's number: the segment of the block's first row. -/
theorem lo_at (c : Dev nD) (t : Fin cfg0.N) :
    (iblk m c 0 t : IVec S25 32) (ix1 (n0 := 25) (grid0.coords t 0)) = BitVec.ofNat 32 (num (batch m c) (2000 * t.val)) := by
  have h := lt25 t
  have hc : (grid0.coords t 0).val = t.val := (index_at t).2.2.2.2.2.2.2.2.2.2
  rw [blk_lo]
  refine Eq.trans (congrArg (batch m c) (funext fun (a : Fin 1) => Fin.ext ?_)) ((BitVec.ofNat_toNat 32 _).trans (BitVec.setWidth_eq _)).symm
  obtain rfl : a = 0 := Subsingleton.elim _ _
  show 0 + 2000 * (grid0.coords t 0).val = (2000 * t.val) % 50000
  omega

theorem hi_at (c : Dev nD) (t : Fin cfg0.N) :
    (iblk m c 1 t : IVec S25 32) (ix1 (n0 := 25) (grid0.coords t 0)) = BitVec.ofNat 32 (num (batch m c) (2000 * t.val + 1999)) := by
  have h := lt25 t
  have hc : (grid0.coords t 0).val = t.val := (index_at t).2.2.2.2.2.2.2.2.2.2
  rw [blk_hi]
  refine Eq.trans (congrArg (batch m c) (funext fun (a : Fin 1) => Fin.ext ?_)) ((BitVec.ofNat_toNat 32 _).trans (BitVec.setWidth_eq _)).symm
  obtain rfl : a = 0 := Subsingleton.elim _ _
  show 1999 + 2000 * (grid0.coords t 0).val = (2000 * t.val + 1999) % 50000
  omega

variable {m} in
/-- Every point's description fits what its windows hold. -/
theorem fits (c : Dev nD) (hB : Sorted (batch m c)) (t : Fin cfg0.N) :
    Fits (grid0.coords t) (ptOf m c t.val) (iblk m c 0 t) (iblk m c 1 t) (iblk m c 2 t) (iblk m c 3 t) (iblk m c 4 t) (iblk m c 5 t)
      (iblk m c 6 t) (iblk m c 7 t) := by
  refine ⟨ok_of c hB (lt25 t), ?_, ?_, ?_, ?_, ?_, ?_⟩
  · exact ((index_at t).2.2.2.2.2.2.2.2.2.2).symm
  · exact lo_at m c t
  · exact hi_at m c t
  · dsimp only [ptOf]
    exact blk_starts m c hB t
  · dsimp only [ptOf]
    rw [tOf_val]
  · refine (rows2000_put _ _).trans ?_
    rw [tOf_val]

/-! ## The region's proof data -/

/-- Every window but the result's holds its block throughout; the result's holds the running maximum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => acc m c t.val
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = acc m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the result's window holds when a point starts is what the point before left there; at the first point, anything. -/
theorem out_step (c : Dev nD) (t : Fin cfg0.N) (d) :
    (ptOf m c t.val).out (iblk m c 8 t) ((dats m 0 c).before 9 t d) = acc m c t.val := by
  obtain ⟨n, hn⟩ := t
  cases n with
  | zero =>
    refine (out_zero (ptOf m c 0) rfl _ _ k0_pay15).trans ?_
    show _ = (ptOf m c 0).out (iblk m c 8 (tOf 0)) k0_pay15
    rw [show (⟨0, hn⟩ : Fin cfg0.N) = tOf 0 from rfl]
  | succ n =>
    have hn' : n + 1 < 25 := lt25 ⟨n + 1, hn⟩
    have hfl : (cfg0.win 9).flush ⟨n + 1 - 1, Nat.lt_of_le_of_lt (Nat.sub_le _ _) hn⟩ = false := by
      rw [Bool.eq_false_iff]
      intro h
      have := (flush0_9 _).1 h
      have h2 : (n + 1 - 1) % 25 = 24 := this
      omega
    rw [(dats m 0 c).before_out_kept 9 rfl ⟨n + 1, hn⟩ (Nat.succ_ne_zero n) hfl (fun _ => rfl) (fun _ _ => rfl), after0_9]
    show _ = (ptOf m c (n + 1)).out (iblk m c 8 (tOf (n + 1))) (acc m c n)
    rw [show tOf (n + 1) = ⟨n + 1, hn⟩ from tOf_val ⟨n + 1, hn⟩]
    rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (hB : Sorted (batch m c)) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3, after0_4, after0_5, after0_6, after0_7, after0_8, after0_9]
  unfold Pipeline.ΦA
  rw [scopedRest0_eq]
  iintro ⟨⟨⟨%f11, H11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hrun := kernelOwns c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (Memref.whole cc0_scratch0) (Memref.isWhole_whole _) (ptOf m c t.val) (iblk m c 0 t) (iblk m c 1 t) (iblk m c 2 t) (iblk m c 3 t) (iblk m c 4 t) (iblk m c 5 t) (iblk m c 6 t) (iblk m c 7 t)
    (iblk m c 8 t) ((dats m 0 c).before 9 t d9) (fits c hB t)
  rw [out_step m c t d9] at hrun
  iapply (hrun.trans (wp_wand _ _ _)) $$ [H0 H1 H2 H3 H4 H5 H6 H7 H8 H9 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists f11; iexact H11
  iintro %_ ⟨H0, H1, H2, H3, H4, H5, H6, H7, H8, H9, ⟨%g11, H11⟩⟩
  isplitl [H11 Hr]
  · isplitl [H11]
    · iexists g11; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) (hB : Sorted (batch m c)) :
    BodyObligation (dats (F := F) m 0 c) (defs₀ (F := F)) Variants.none () Set.univ := fun t => by
  rw [bigSep_W0, bigSep_W0, defs₀_row]
  exact triple_restated (sound_body m c hB t) rfl .rfl fun _ => .rfl

/-! ## The run -/

set_option backward.isDefEq.respectTransparency.types false in
/-- From a sorted batch on every core, every execution ends, with every array as the proof data gives it and every counter at
    zero. -/
theorem run_main_quiescent (hB : ∀ c, Sorted (batch m c)) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c (hB c)).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main (hB : ∀ c, Sorted (batch m c)) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ hB)

/-- From a sorted batch the program leaves its arguments as they were, and every counter at zero. -/
theorem frame (hB : ∀ c, Sorted (batch m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ hB)) ((θ_run defs _ _).mono (fun _ h => h.2) (run_main_quiescent m ρ hB))

end Cert.SegPool

end
-- ==== Proof.Transport.lean ====
/-
  The kernel as compiled and its idealized form are one program text: what is proved of the second, at any reading of the
  floats, is carried to the first.
-/
module

public import proofs.«01_k».proof.Proof.Gen.Kernel
public import proofs.«01_k».proof.Proof.Run

@[expose] public section

noncomputable section

namespace Cert.SegPool

open Idealize.ShloMosaic Idealize.ShloMosaic.TcCoe Idealize.SL.Sem

section Programs

variable [Cert.Kernel.Facts] [Cert.KernelIdeal.Facts]

set_option maxRecDepth 100000 in
theorem main_eq : Cert.Kernel.main (F := Bits) = (Cert.KernelIdeal.main (F := Bits)) := by rfl

set_option maxRecDepth 100000 in
theorem defs₀_eq : Cert.Kernel.defs₀ (F := Bits) = (Cert.KernelIdeal.defs₀ (F := Bits)) := by
  refine congrArg (Defs.onTc (nD := Cert.KernelIdeal.nD) (τ := Cert.KernelIdeal.τ) (Λ := Cert.KernelIdeal.Λ₀)) ?_
  funext l x; revert x
  refine Fin.cases ?_ (fun j => j.elim0) l
  intro x; rfl

theorem defs_eq : Cert.Kernel.defs (F := Bits) = (Cert.KernelIdeal.defs (F := Bits)) := by
  exact congrArg (Pipeline.defs Cert.KernelIdeal.pcfgs) defs₀_eq

end Programs

end Cert.SegPool

end
-- ==== Proof.Frames.lean ====
/-
  The frames: each program ends, leaves its arguments as they were, and leaves every semaphore counter at zero. The
  kernel's holds under the stated precondition (the batch words ascend and lie in `[0, 512)`), the reference's from any
  memory.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_sorted_batch
public import proofs.«01_k».proof.Proof.Transport
public import Idealize.ShloMosaic.Lib.Quiescent

@[expose] public section

noncomputable section

namespace Cert.SegPool

open Idealize.ShloMosaic Idealize.ShloMosaic.TcCoe Idealize.SL.Sem

/-- The precondition on the ideal kernel's memory says that its batch ascends and stays below the number of segments. -/
theorem sorted_ideal (m : (ℓ : Loc Cert.KernelIdeal.nD Cert.KernelIdeal.τ Cert.KernelIdeal.sig) → Buf (Elt Ideal) ℓ)
    (h : Cert.Pre_KernelIdeal m) (c : Dev Cert.KernelIdeal.nD) : Sorted (batch m c) :=
  sorted_of_pre (F := Ideal) _ _ _ _ _ _ _ (h c)

theorem frame_kernelIdeal : Cert.quiescent_KernelIdeal := fun m g h => frame (F := Ideal) m g (sorted_ideal m h)

/-- The kernel as compiled is the same program as its ideal form, read at float words. -/
theorem frame_kernel : Cert.quiescent_Kernel := fun m g h => by
  rw [defs_eq, main_eq]
  exact frame (F := Bits) m g fun c => sorted_of_pre (F := Bits) _ _ _ _ _ _ _ (h c)

theorem frame_reference : Cert.quiescent_ReferenceIdeal := fun m g _ =>
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m g)

/-- The same from the memories the precondition allows. -/
theorem frame_reference_pre : Cert.quiescent_ReferenceIdeal_pre_sorted_batch := fun m g _ => frame_reference m g trivial

end Cert.SegPool

end
-- ==== Proof.Reals.lean ====
/-
  The extended reals as both programs use them: the two float constants, the activation written both ways, and the largest
  entry of a column.
-/
module

public import proofs.«01_k».proof.Proof.Spec
public import Idealize.ShloMosaic.PureOps.Ideal.Laws
public import Idealize.ShloMosaic.Lib.ValueIdx
public import Mathlib.Data.EReal.Inv
public import Mathlib.Tactic.NormNum

@[expose] public section

noncomputable section

namespace Cert.SegPool

open Cert.KernelIdeal Cert.KernelIdeal.Gen
open Idealize.ShloMosaic

/-- The pattern of minus infinity reads the least extended real. -/
theorem bits_bot : Ideal.ofBits .f32 0xFF800000#32 = (⊥ : EReal) := by simp [Ideal.ofBits, Ideal.ieee]

theorem bits_zero : Ideal.ofBits .f32 0x00000000#32 = (0 : EReal) := by simp [Ideal.ofBits, Ideal.ieee]

/-- The slope of the activation. -/
def slope : EReal := Ideal.ofBits .f32 0x3C23D70A#32

/-- The slope is a real number between zero and one. -/
theorem slope_real : ∃ q : ℝ, 0 < q ∧ q < 1 ∧ slope = (q : EReal) := by
  refine ⟨(10737418 : ℝ) * (2 : ℝ) ^ (-30 : ℤ), by norm_num, by norm_num, ?_⟩
  unfold slope
  simp [Ideal.ofBits, Ideal.ieee, -EReal.coe_mul]

theorem slope_pos : 0 < slope := by
  obtain ⟨q, h, _, e⟩ := slope_real
  rw [e]; exact_mod_cast h

theorem slope_le : slope ≤ 1 := by
  obtain ⟨q, _, h, e⟩ := slope_real
  rw [e]; exact_mod_cast h.le

/-- The activation. -/
def act (x : EReal) : EReal := max x (slope * x)

theorem act_mono : Monotone act := fun _ _ h => max_le_max h (mul_le_mul_of_nonneg_left h slope_pos.le)

theorem act_bot : act ⊥ = ⊥ := by
  unfold act
  rw [EReal.mul_bot_of_pos slope_pos, max_self]

/-- The activation by cases on the sign. -/
theorem act_eq (x : EReal) : act x = if 0 < x then x else slope * x := by
  unfold act
  split
  · rename_i h
    refine max_eq_left ?_
    calc slope * x ≤ 1 * x := mul_le_mul_of_nonneg_right slope_le h.le
      _ = x := one_mul x
  · rename_i h
    refine max_eq_right ?_
    obtain ⟨q, h0, h1, e⟩ := slope_real
    induction x with
    | bot => exact bot_le
    | top => exact absurd EReal.zero_lt_top h
    | coe x =>
      rw [e]
      have hx : x ≤ 0 := by exact_mod_cast not_lt.mp h
      have : x ≤ q * x := by nlinarith
      exact_mod_cast this

/-- The largest entry of a column, started from minus infinity. -/
theorem colMax {n : ℕ} (x : FVec Ideal ⟨2, ![n, 1024]⟩ .f32) (h : (⟨2, ![n, 1024]⟩ : Shape).Reduces [0] S1024) (d : Fin 1024) :
    multiReduction .maximumf [0] S1024 x 0xFF800000#32 h (.inl rfl) rfl (ix1 d)
      = (Finset.univ : Finset (Fin n)).sup fun r => (x (ix2 r d) : EReal) := by
  classical
  refine (multiReduction_maximumf_eq_fold x 0xFF800000#32 h (.inl rfl) rfl (ix1 d)).trans ?_
  rw [Shape.Reduces.fold_filter_drop_single]
  have e0 : (FloatOps.ofBits (F := Ideal) .f32 0xFF800000#32 : EReal) = ⊥ := bits_bot
  have e1 : x ∘ h.lift (ix1 d) = fun r : Fin n => x (ix2 r d) := by
    funext r
    refine congrArg x (funext fun a => Fin.ext ?_)
    fin_cases a <;> simp [Shape.Reduces.lift_val, Shape.Reduces.liftVal]
  rw [e1, e0]
  rfl

/-- A maximum over a set, under a function that keeps the order and the least element. -/
theorem sup_map {ι : Type*} (s : Finset ι) (f : ι → EReal) (g : EReal → EReal) (hg : Monotone g) (h0 : g ⊥ = ⊥) :
    g (s.sup f) = s.sup fun i => g (f i) :=
  Finset.comp_sup_eq_sup_comp g (fun a b => hg.map_sup a b) h0

end Cert.SegPool

end
-- ==== Proof.Rows.lean ====
/-
  The rows that one grid point computes, over the extended reals: a segment's window never gives more than the largest entry
  over all the block's rows of that segment, gives exactly that when the segment does not reach past its window, and the
  loop over the whole block raises a row to exactly that.
-/
module

public import proofs.«01_k».proof.Proof.Mask
public import proofs.«01_k».proof.Proof.Reals

@[expose] public section

noncomputable section

namespace Cert.SegPool

open Cert.KernelIdeal Cert.KernelIdeal.Gen
open Idealize.ShloMosaic

namespace Pt

variable (p : Pt Ideal)

/-- Row `r` of the block belongs to segment `s`. -/
def Has (s r : ℕ) : Prop := p.G s ≤ 2000 * p.t + r ∧ 2000 * p.t + r < p.G (s + 1)

instance (s r : ℕ) : Decidable (p.Has s r) := inferInstanceAs (Decidable (_ ∧ _))

/-- Entry `d` of row `r` of the block, after the second product. -/
def zAt (r : Fin 2000) (d : Fin 1024) : EReal := rows2000 p.Z (ix2 r d)

/-- The largest entry over the block's rows of segment `s`. -/
def full (s : ℕ) (d : Fin 1024) : EReal :=
  (Finset.univ : Finset (Fin 2000)).sup fun r => if p.Has s r.val then p.zAt r d else ⊥

/-- How the table of starts and the block's segment numbers fit together. -/
structure Tied : Prop where
  mono : ∀ s, p.G s ≤ p.G (s + 1)
  seg : ∀ (r : Fin 2000) (s : ℕ), s < 512 → (p.seg (ix2 r (0 : Fin 1)) = BitVec.ofNat 32 s ↔ p.Has s r.val)
  outside : ∀ (r : Fin 2000) (s : ℕ), s < 512 → p.Has s r.val → p.a ≤ s ∧ s ≤ p.b

/-- A row of column maxima, read at a column. -/
theorem row_apply (x : FVec Ideal S1024 .f32) (d : Fin 1024) :
    (shapeCast S1x1024 x shapeCasts_S1024_S1x1024 : FVec Ideal S1x1024 .f32) (ix2 (0 : Fin 1) d) = x (ix1 d) :=
  shapeCast_apply x _ _ _ (by
    rw [Shape.rowMajor_val_one, Shape.rowMajor_val_two]
    show d.val = 0 * 1024 + d.val
    omega)

variable {p} (h : p.Ok) (k : p.Tied)
include h

/-- The window's row, entry by entry. -/
theorem winRow_apply {s : ℕ} (h1 : p.a ≤ s) (h2 : s ≤ p.b) (d : Fin 1024) :
    (p.winRow s (ix2 (0 : Fin 1) d) : EReal) = (Finset.univ : Finset (Fin 144)).sup fun j =>
      if nStart p.t (p.G s) ≤ nStart p.t (p.G s) / 8 * 8 + j.val ∧ nStart p.t (p.G s) / 8 * 8 + j.val < nEnd p.t (p.G (s + 1))
      then (rows144 p.Z (nStart p.t (p.G s) / 8 * 8) (ix2 j d) : EReal) else ⊥ := by
  have hlt := h.lt
  have hg := h.starts.le s (by omega)
  have he := h.starts.le (s + 1) (by omega)
  have hr := h.far s h1 h2
  unfold winRow k0_pay9
  refine (row_apply _ d).trans ((colMax _ _ d).trans (Finset.sup_congr rfl fun j _ => ?_))
  show (if _ = 1#1 then rows144 p.Z _ (ix2 j d) else (k0_pay8 (F := Ideal)) (ix2 j d)) = _
  rw [mask_val h.time hg he hr (ix2 j d)]
  have e8 : ((k0_pay8 (F := Ideal)) (ix2 j d) : EReal) = ⊥ := bits_bot
  rw [e8]
  have : ∀ P : Prop, [Decidable P] → (BitVec.ofBool (decide P) = 1#1 ↔ P) := by
    intro P _; by_cases hP : P <;> simp [hP]
  exact if_congr (this _) rfl rfl

/-- A window never gives more than the whole block. -/
theorem winRow_le {s : ℕ} (h1 : p.a ≤ s) (h2 : s ≤ p.b) (d : Fin 1024) : (p.winRow s (ix2 (0 : Fin 1) d) : EReal) ≤ p.full s d := by
  rw [winRow_apply h h1 h2]
  refine Finset.sup_le fun j _ => ?_
  split
  · rename_i hj
    have h3 : nEnd p.t (p.G (s + 1)) ≤ 2000 := by unfold nEnd; omega
    have hr : nStart p.t (p.G s) / 8 * 8 + j.val < 2000 := by omega
    have hs : p.Has s (nStart p.t (p.G s) / 8 * 8 + j.val) := by
      obtain ⟨a1, a2⟩ := hj
      unfold Has
      generalize nStart p.t (p.G s) / 8 * 8 = w at *
      unfold nStart at a1
      unfold nEnd at a2
      omega
    refine le_trans (le_of_eq ?_) (Finset.le_sup (Finset.mem_univ (⟨nStart p.t (p.G s) / 8 * 8 + j.val, hr⟩ : Fin 2000)))
    rw [if_pos hs]
    rfl
  · exact bot_le

include k

/-- A window that the segment does not reach past gives the whole block's. -/
theorem winRow_eq {s : ℕ} (h1 : p.a ≤ s) (h2 : s ≤ p.b) (h0 : p.over s = 0#32) (d : Fin 1024) :
    (p.winRow s (ix2 (0 : Fin 1) d) : EReal) = p.full s d := by
  refine le_antisymm (winRow_le h h1 h2 d) ?_
  have ht := h.time
  have hlt := h.lt
  have hg := h.starts.le s (by omega)
  have he := h.starts.le (s + 1) (by omega)
  have hr := h.far s h1 h2
  have hn := h.starts.near s h2
  have hm := k.mono s
  have hw : nStart p.t (p.G s) / 8 * 8 ≤ nEnd p.t (p.G (s + 1)) := by unfold nStart nEnd; omega
  have h144 : nEnd p.t (p.G (s + 1)) - nStart p.t (p.G s) / 8 * 8 ≤ 144 := by
    by_contra hc
    unfold over at h0
    rw [winOver_nat ht hg he hr hw, if_pos (by omega)] at h0
    exact absurd h0 (by decide)
  rw [winRow_apply h h1 h2]
  refine Finset.sup_le fun r _ => ?_
  split
  · rename_i hs
    have hr' := r.isLt
    obtain ⟨a1, a2⟩ := hs
    have b1 : nStart p.t (p.G s) ≤ r.val := by unfold nStart; omega
    have b2 : r.val < nEnd p.t (p.G (s + 1)) := by unfold nEnd; omega
    have b3 : nStart p.t (p.G s) / 8 * 8 ≤ r.val := (Nat.div_mul_le_self _ _).trans b1
    have b4 : nStart p.t (p.G s) / 8 * 8 + (r.val - nStart p.t (p.G s) / 8 * 8) = r.val := by omega
    refine le_trans (le_of_eq ?_) (Finset.le_sup (Finset.mem_univ (⟨r.val - nStart p.t (p.G s) / 8 * 8, by omega⟩ : Fin 144)))
    dsimp only
    rw [b4, if_pos ⟨b1, b2⟩]
    show p.Z (ix2 (n0 := 2144) (n1 := 1024) ⟨r.val % 2144, _⟩ d) = p.Z (ix2 (n0 := 2144) (n1 := 1024) ⟨(_ + (r.val - _)) % 2144, _⟩ d)
    refine congrArg (fun q => p.Z (ix2 (n0 := 2144) (n1 := 1024) q d)) (Fin.ext ?_)
    show r.val % 2144 = (nStart p.t (p.G s) / 8 * 8 + (r.val - nStart p.t (p.G s) / 8 * 8)) % 2144
    rw [b4]
  · exact bot_le

omit h in
/-- The loop over the whole block raises a row to the largest entry of its segment. -/
theorem fullRow_apply {s : ℕ} (hs : s < 512) (row : Vec Ideal S1x1024 .f32) (d : Fin 1024) :
    (p.fullRow (BitVec.ofNat 32 s) row (ix2 (0 : Fin 1) d) : EReal) = max (row (ix2 (0 : Fin 1) d) : EReal) (p.full s d) := by
  unfold fullRow
  rw [shapeCast_self, shapeCast_self, shapeCast_self]
  refine congrArg (max (row (ix2 (0 : Fin 1) d) : EReal)) ?_
  refine (row_apply _ d).trans ((colMax _ _ d).trans (Finset.sup_congr rfl fun r _ => ?_))
  show (if broadcastTo S2000x1024 (cmpi .eq p.seg (broadcast S2000x1 (BitVec.ofNat 32 s))) broadcasts_S2000x1_S2000x1024 (ix2 r d) = 1#1
    then rows2000 p.Z (ix2 r d) else (Ideal.ofBits .f32 0xFF800000#32 : EReal)) = _
  rw [bits_bot, broadcastTo_apply _ _ (ix2 r d) (ix2 (n0 := 2000) (n1 := 1) r 0) (by intro a; fin_cases a <;> rfl)]
  refine if_congr ?_ rfl rfl
  refine Iff.trans ?_ (k.seg r s hs)
  show IntOp.cmpi .eq (p.seg (ix2 r 0)) (BitVec.ofNat 32 s) = 1#1 ↔ _
  have hb : ∀ b : Bool, BitVec.ofBool b = 1#1 ↔ b = true := by decide
  exact (hb _).trans beq_iff_eq

end Pt

end Cert.SegPool

end
-- ==== Proof.Merge.lean ====
/-
  What one grid point makes of the result, over the extended reals: every row is raised to the largest entry of its segment's
  rows in the block, whichever of the two loops did it.
-/
module

public import proofs.«01_k».proof.Proof.Rows

@[expose] public section

noncomputable section

namespace Cert.SegPool

open Cert.KernelIdeal Cert.KernelIdeal.Gen
open Idealize.ShloMosaic

namespace Pt

variable (p : Pt Ideal) (O : Vec Ideal S512x1024 .f32)

/-- Entry `(s, d)` of an array of the result's shape. -/
abbrev entry (C : Vec Ideal S512x1024 .f32) (s : Fin 512) (d : Fin 1024) : EReal := C (ix2 s d)

/-- What the point is to leave at `(s, d)`. -/
def goal (s : Fin 512) (d : Fin 1024) : EReal := max (entry O s d) (p.full s.val d)

/-- The array `C` lies between what the point found and what it is to leave, and has reached the latter on the rows in `S`. -/
def Between (C : Vec Ideal S512x1024 .f32) (S : ℕ → Prop) : Prop :=
  ∀ s d, entry O s d ≤ entry C s d ∧ entry C s d ≤ p.goal O s d ∧ (S s.val → entry C s d = p.goal O s d)

variable {p O} (h : p.Ok) (k : p.Tied) (hO : ∀ (s : Fin 512) d, p.a < s.val → s.val ≤ p.b → entry O s d = ⊥)

theorem Between.weaken {C : Vec Ideal S512x1024 .f32} {S S' : ℕ → Prop} (hC : p.Between O C S) (hS : ∀ s, S' s → S s) :
    p.Between O C S' := fun s d => ⟨(hC s d).1, (hC s d).2.1, fun hs => (hC s d).2.2 (hS _ hs)⟩

/-- Replacing one row keeps an array between the bounds when the new row is, and completes that row when the new row is the
    one to reach. -/
theorem Between.setRow {C : Vec Ideal S512x1024 .f32} {S : ℕ → Prop} (hC : p.Between O C S) {u : ℕ} (hu : u < 512)
    {row : Vec Ideal S1x1024 .f32} {D : Prop} (lo : ∀ d, entry O ⟨u, hu⟩ d ≤ (row (ix2 (0 : Fin 1) d) : EReal))
    (hi : ∀ d, (row (ix2 (0 : Fin 1) d) : EReal) ≤ p.goal O ⟨u, hu⟩ d)
    (eq : D → ∀ d, (row (ix2 (0 : Fin 1) d) : EReal) = p.goal O ⟨u, hu⟩ d) :
    p.Between O (setRow C u row) fun s => (s ≠ u ∧ S s) ∨ (s = u ∧ D) := by
  intro s d
  unfold entry
  rw [setRow_apply]
  by_cases hs : s.val = u
  · subst hs
    rw [if_pos rfl]
    refine ⟨lo d, hi d, ?_⟩
    rintro (⟨hn, _⟩ | ⟨_, hD⟩)
    · exact absurd rfl hn
    · exact eq hD d
  · rw [if_neg hs]
    refine ⟨(hC s d).1, (hC s d).2.1, ?_⟩
    rintro (⟨_, hS⟩ | ⟨he, _⟩)
    · exact (hC s d).2.2 hS
    · exact absurd he hs

/-- The array, and the word that says whether some window was too short: the word is a bit, and while it is zero the rows
    from the block's first segment up to `n` are complete. -/
def Upto (p : Pt Ideal) (O : Vec Ideal S512x1024 .f32) (q : Vec Ideal S512x1024 .f32 × BitVec 32) (n : ℕ) : Prop :=
  (q.2 = 0#32 ∨ q.2 = 1#32) ∧ p.Between O q.1 fun s => q.2 = 0#32 ∧ p.a ≤ s ∧ s ≤ n ∧ s ≤ p.b

theorem over_bit (s : ℕ) : p.over s = 0#32 ∨ p.over s = 1#32 := by
  unfold over winOver
  generalize Scalar.cmpi _ _ _ = x
  revert x; decide

/-- Two bits joined are a bit, zero only when both are. -/
theorem ori_bit {x y : BitVec 32} (hx : x = 0#32 ∨ x = 1#32) (hy : y = 0#32 ∨ y = 1#32) :
    (Scalar.ori x y = 0#32 ∨ Scalar.ori x y = 1#32) ∧ (Scalar.ori x y = 0#32 → x = 0#32 ∧ y = 0#32) := by
  rcases hx with rfl | rfl <;> rcases hy with rfl | rfl <;> decide

include h k

/-- The block's first segment merged in. -/
theorem head_upto (O : Vec Ideal S512x1024 .f32) : Upto p O (p.head O, p.over p.a) p.a := by
  have hlt := h.lt
  have hle := h.le
  have ha : p.a < 512 := by omega
  have hrow : ∀ d, (maximumf (shapeCast S1x1024 (rowAt O p.a) shapeCasts_S1x1024_S1x1024) (p.winRow p.a) (ix2 (0 : Fin 1) d) : EReal)
      = max (entry O ⟨p.a, ha⟩ d) (p.winRow p.a (ix2 (0 : Fin 1) d)) := by
    intro d
    rw [shapeCast_self]
    refine congrArg (fun z : EReal => max z _) (congrArg (fun q => O (ix2 (n0 := 512) (n1 := 1024) q d)) (Fin.ext ?_))
    exact Nat.mod_eq_of_lt ha
  refine ⟨over_bit _, ?_⟩
  have h0 : p.Between O O fun _ => False := fun s d => ⟨le_rfl, le_max_left _ _, False.elim⟩
  refine Between.weaken (h0.setRow (D := p.over p.a = 0#32) ha (fun d => ?_) (fun d => ?_) (fun hD d => ?_)) ?_
  · rw [hrow]; exact le_max_left _ _
  · rw [hrow]; exact max_le_max le_rfl (winRow_le h le_rfl hle d)
  · rw [hrow, winRow_eq h k le_rfl hle hD]; rfl
  · rintro s ⟨hw, h1, h2, _⟩
    exact .inr ⟨by omega, hw⟩

include hO

/-- One row of the main loop: a segment after the first, with every segment before it done. -/
theorem row_upto {q : Vec Ideal S512x1024 .f32 × BitVec 32} {n u : ℕ} (hq : Upto p O q n) (h1 : p.a < u) (h2 : u ≤ p.b)
    {n' : ℕ} (hn : ∀ s, s ≤ n' → s ≤ p.b → s ≤ n ∨ s = u) :
    Upto p O (setRow q.1 u (p.winRow u), Scalar.ori q.2 (p.over u)) n' := by
  have hlt := h.lt
  have hu : u < 512 := by omega
  obtain ⟨b1, b2⟩ := ori_bit hq.1 (p.over_bit u)
  refine ⟨b1, Between.weaken (hq.2.setRow (D := p.over u = 0#32) hu (fun d => ?_) (fun d => ?_) (fun hD d => ?_)) ?_⟩
  · rw [hO ⟨u, hu⟩ d h1 h2]; exact bot_le
  · exact (winRow_le h h1.le h2 d).trans (le_max_right _ _)
  · rw [winRow_eq h k h1.le h2 hD]
    unfold goal
    rw [hO ⟨u, hu⟩ d h1 h2]
    exact (max_eq_right bot_le).symm
  · rintro s ⟨hw, h3, h4, h5⟩
    obtain ⟨w1, w2⟩ := b2 hw
    by_cases hs : s = u
    · exact .inr ⟨hs, w2⟩
    · exact .inl ⟨hs, w1, h3, (hn s h4 h5).resolve_right hs, h5⟩

/-- The main loop. -/
theorem trips_upto : ∀ n, n ≤ (p.b - p.a + 1) / 2 → Upto p O (p.trips O n) (p.a + 2 * n)
  | 0, _ => head_upto h k O
  | n + 1, hn => by
    have hle := h.le
    have ih := trips_upto n (by omega)
    have e1 : s1 p.a n = p.a + 1 + 2 * n := rfl
    have e2 : s2 p.a p.b n = min (p.a + 1 + 2 * n + 1) p.b := rfl
    have r1 := row_upto h k hO ih (u := s1 p.a n) (by omega) (by omega) (n' := s1 p.a n) (by intro s _ _; omega)
    exact row_upto h k hO r1 (u := s2 p.a p.b n) (by omega) (by omega) (n' := p.a + 2 * (n + 1)) (by intro s _ _; omega)

omit hO

/-- The loop over the whole block, once per segment. -/
theorem fulls_between {C : Vec Ideal S512x1024 .f32} (hC : p.Between O C fun _ => False) :
    ∀ n, n ≤ p.b + 1 - p.a → p.Between O (p.fulls C n) fun s => p.a ≤ s ∧ s < p.a + n
  | 0, _ => hC.weaken (by intro s hs; omega)
  | n + 1, hn => by
    have hlt := h.lt
    have hu : p.a + n < 512 := by omega
    have ih := fulls_between hC n (by omega)
    have hrow : ∀ d, (p.fullRow (BitVec.ofNat 32 (p.a + n)) (rowAt (p.fulls C n) (p.a + n)) (ix2 (0 : Fin 1) d) : EReal)
        = max (entry (p.fulls C n) ⟨p.a + n, hu⟩ d) (p.full (p.a + n) d) := by
      intro d
      rw [fullRow_apply k hu]
      refine congrArg (fun z : EReal => max z _) (congrArg (fun q => p.fulls C n (ix2 (n0 := 512) (n1 := 1024) q d)) (Fin.ext ?_))
      exact Nat.mod_eq_of_lt hu
    have hgoal : ∀ d, max (entry (p.fulls C n) ⟨p.a + n, hu⟩ d) (p.full (p.a + n) d) = p.goal O ⟨p.a + n, hu⟩ d := fun d =>
      le_antisymm (max_le (ih _ d).2.1 (le_max_right _ _)) (max_le_max (ih _ d).1 le_rfl)
    refine Between.weaken (ih.setRow (D := True) hu (fun d => ?_) (fun d => ?_) (fun _ d => ?_)) ?_
    · rw [hrow]; exact (ih _ d).1.trans (le_max_left _ _)
    · rw [hrow, hgoal]
    · rw [hrow, hgoal]
    · rintro s ⟨h1, h2⟩
      by_cases hs : s = p.a + n
      · exact .inr ⟨hs, trivial⟩
      · exact .inl ⟨hs, h1, by omega⟩

/-- Outside the block's segments there is nothing to merge. -/
theorem full_outside {s : ℕ} (hs : s < 512) (ho : ¬(p.a ≤ s ∧ s ≤ p.b)) (d : Fin 1024) : p.full s d = ⊥ := by
  refine le_antisymm (Finset.sup_le fun r _ => ?_) bot_le
  rw [if_neg fun hh => ho (k.outside r s hs hh)]

include hO

/-- Both loops together raise every row to the largest entry of its segment's rows. -/
theorem merged_apply (s : Fin 512) (d : Fin 1024) : entry (p.merged O) s d = p.goal O s d := by
  have hle := h.le
  have hq := trips_upto h k hO _ le_rfl
  have out : ∀ {C : Vec Ideal S512x1024 .f32} {S : ℕ → Prop}, p.Between O C S → (p.a ≤ s.val ∧ s.val ≤ p.b → S s.val) →
      entry C s d = p.goal O s d := by
    intro C S hC hS
    by_cases hin : p.a ≤ s.val ∧ s.val ≤ p.b
    · exact (hC s d).2.2 (hS hin)
    · refine le_antisymm (hC s d).2.1 (le_trans (le_of_eq ?_) (hC s d).1)
      unfold goal
      rw [full_outside h k s.isLt hin]
      exact max_eq_left bot_le
  unfold merged
  dsimp only
  split
  · refine out (fulls_between h k (hq.2.weaken fun s hs => hs.elim) _ le_rfl) (by omega)
  · rename_i hc
    refine out hq.2 fun hin => ⟨?_, hin.1, by omega, hin.2⟩
    refine hq.1.resolve_right fun h1 => hc ?_
    rw [h1]
    decide

end Pt

end Cert.SegPool

end
-- ==== Proof.Network.lean ====
/-
  The node network over the extended reals: what a row's second product is, and that the block's product at a grid point holds
  exactly those numbers.
-/
module

public import proofs.«01_k».proof.Proof.Reals
public import Idealize.ShloMosaic.Lib.MatmulPlain

@[expose] public section

noncomputable section

namespace Cert.SegPool

open Cert.KernelIdeal Cert.KernelIdeal.Gen
open Idealize.ShloMosaic

/-- Entry `k` of a row's hidden layer. -/
def hidden {n : ℕ} (X : FVec Ideal ⟨2, ![n, 256]⟩ .f32) (W1 : FVec Ideal S256x512 .f32) (b1 : FVec Ideal S512 .f32) (r : Fin n)
    (k : Fin 512) : EReal :=
  act ((∑ j : Fin 256, (X (ix2 r j) : EReal) * W1 (ix2 j k)) + b1 (ix1 k))

/-- Entry `d` of a row's second product, before the second offset and activation. -/
def second {n : ℕ} (X : FVec Ideal ⟨2, ![n, 256]⟩ .f32) (W1 : FVec Ideal S256x512 .f32) (b1 : FVec Ideal S512 .f32)
    (W2 : FVec Ideal S512x1024 .f32) (r : Fin n) (d : Fin 1024) : EReal :=
  ∑ k : Fin 512, hidden X W1 b1 r k * W2 (ix2 k d)

/-- A row of offsets spread down the rows, read at an index. -/
theorem offset_apply {n w : ℕ} (b : FVec Ideal ⟨1, ![w]⟩ .f32) (h : (⟨1, ![w]⟩ : Shape).ShapeCasts ⟨2, ![1, w]⟩)
    (h' : (⟨2, ![1, w]⟩ : Shape).Broadcasts ⟨2, ![n, w]⟩) (hw : w ≠ 1) (r : Fin n) (k : Fin w) :
    (broadcastTo ⟨2, ![n, w]⟩ (shapeCast ⟨2, ![1, w]⟩ b h) h' (ix2 r k) : EReal) = b (ix1 k) := by
  rw [broadcastTo_apply _ _ (ix2 r k) (ix2 (n0 := 1) (n1 := w) 0 k)
    (by intro a; fin_cases a
        · rfl
        · show k.val = if w = 1 then 0 else k.val
          rw [if_neg hw])]
  refine shapeCast_apply b h _ _ ?_
  rw [Shape.rowMajor_val_one, Shape.rowMajor_val_two]
  show k.val = 0 * w + k.val
  omega

/-- A product started from zero, read at an index. -/
theorem product_apply {M K N : ℕ} (A : FVec Ideal ⟨2, ![M, K]⟩ .f32) (B : FVec Ideal ⟨2, ![K, N]⟩ .f32) (r : Fin M) (c : Fin N) :
    (FloatOps.matmul (DotDims.plain M K N) none A B (constant ⟨2, ![M, N]⟩ .f32 0x00000000#32) (ix2 r c) : EReal)
      = ∑ k : Fin K, (A (ix2 r k) : EReal) * B (ix2 k c) :=
  (Ideal.matmul_plain_apply none A B _ r c).trans ((congrArg (fun z : EReal => z + _) bits_zero).trans (zero_add _))

/-- The block's second product. -/
theorem pay16_apply (X : Vec Ideal S2000x256 .f32) (W1 : Vec Ideal S256x512 .f32) (b1 : FVec Ideal S512 .f32)
    (W2 : Vec Ideal S512x1024 .f32) (r : Fin 2000) (d : Fin 1024) :
    (k0_pay16 X W1 (shapeCast S1x512 b1 shapeCasts_S512_S1x512) W2 (ix2 r d) : EReal) = second (n := 2000) X W1 b1 W2 r d := by
  unfold k0_pay16
  rw [shapeCast_self, shapeCast_self]
  refine (product_apply (M := 2000) (K := 512) (N := 1024) _ W2 r d).trans ?_
  refine Finset.sum_congr rfl fun k _ => congrArg (· * (W2 (ix2 k d) : EReal)) ?_
  have e : ((addf (matmul dot_S2000x256_S256x512_S2000x512_1_0_0_1_n_n none (φ₁ := .f32) (φ₂ := .f32) X W1 (constant S2000x512 .f32 0x00000000#32))
      (broadcastTo S2000x512 (shapeCast S1x512 b1 shapeCasts_S512_S1x512) broadcasts_S1x512_S2000x512) : FVec Ideal S2000x512 .f32)
        (ix2 r k) : EReal) = (∑ j : Fin 256, (X (ix2 r j) : EReal) * W1 (ix2 j k)) + b1 (ix1 k) := by
    exact congrArg₂ (· + · : EReal → EReal → EReal) (product_apply (M := 2000) (K := 256) (N := 512) X W1 r k)
      (offset_apply b1 _ _ (by decide) r k)
  exact congrArg act e

/-- A row's product depends on that row only. -/
theorem second_congr {n n' : ℕ} (X : FVec Ideal ⟨2, ![n, 256]⟩ .f32) (X' : FVec Ideal ⟨2, ![n', 256]⟩ .f32)
    (W1 : FVec Ideal S256x512 .f32) (b1 : FVec Ideal S512 .f32) (W2 : FVec Ideal S512x1024 .f32) (r : Fin n) (r' : Fin n')
    (h : ∀ j, X (ix2 r j) = X' (ix2 r' j)) (d : Fin 1024) : second X W1 b1 W2 r d = second X' W1 b1 W2 r' d := by
  unfold second hidden
  simp only [h]

/-- The second layer's offset and activation, applied to the whole result. -/
theorem pay6_apply (O : Vec Ideal S512x1024 .f32) (b2 : FVec Ideal S1024 .f32) (s : Fin 512) (d : Fin 1024) :
    (k0_pay6 O (shapeCast S1x1024 b2 shapeCasts_S1024_S1x1024) (ix2 s d) : EReal) = act ((O (ix2 s d) : EReal) + b2 (ix1 d)) := by
  unfold k0_pay6
  rw [shapeCast_self, shapeCast_self]
  have e : ((addf O (broadcastTo S512x1024 (shapeCast S1x1024 b2 shapeCasts_S1024_S1x1024) broadcasts_S1x1024_S512x1024) :
      FVec Ideal S512x1024 .f32) (ix2 s d) : EReal) = (O (ix2 s d) : EReal) + b2 (ix1 d) :=
    congrArg (fun z : EReal => (O (ix2 s d) : EReal) + z) (offset_apply b2 _ _ (by decide) s d)
  exact congrArg act e

end Cert.SegPool

end
-- ==== Proof.Accum.lean ====
/-
  The result after every grid point, over the extended reals: after `n` points each segment holds the largest second product
  over its rows among the first `2000 * n`, and after the last point the second layer's offset and activation of that.
-/
module

public import proofs.«01_k».proof.Proof.Run
public import proofs.«01_k».proof.Proof.Merge
public import proofs.«01_k».proof.Proof.Network

@[expose] public section

noncomputable section

namespace Cert.SegPool

open Cert.KernelIdeal Cert.KernelIdeal.Gen
open Idealize.ShloMosaic Idealize.ShloMosaic.TcCoe

variable (m : (l : Loc nD τ sig) → Buf (Elt Ideal) l) (c : Dev nD)

/-- The second product of row `r` of the batch. -/
def rowVal (r : Fin 50000) (d : Fin 1024) : EReal :=
  second (n := 50000) (m ((c : Thread nD τ).loc main_arg0)) (m ((c : Thread nD τ).loc main_arg3)) (m ((c : Thread nD τ).loc main_arg4))
    (m ((c : Thread nD τ).loc main_arg5)) r d

/-- The largest second product over the rows of segment `s` among the first `2000 * n`. -/
def largest (n s : ℕ) (d : Fin 1024) : EReal :=
  (Finset.univ : Finset (Fin 50000)).sup fun r => if r.val < 2000 * n ∧ num (batch m c) r.val = s then rowVal m c r d else ⊥

variable {m c}

/-! The fields of grid point `n`'s description. -/

theorem pt_t (n : ℕ) : (ptOf m c n).t = n := rfl
theorem pt_a (n : ℕ) : (ptOf m c n).a = num (batch m c) (2000 * n) := rfl
theorem pt_b (n : ℕ) : (ptOf m c n).b = num (batch m c) (2000 * n + 1999) := rfl
theorem ends_mk (t : ℕ) (G : ℕ → ℕ) (a b : ℕ) (seg : IVec S2000x1 32) (Z) : (Pt.mk (F := Ideal) t G a b seg Z).G = G := rfl
theorem pt_mk (n : ℕ) : ptOf m c n = Pt.mk n (starts (batch m c)) (num (batch m c) (2000 * n)) (num (batch m c) (2000 * n + 1999))
    (iblk m c 4 (tOf n)) (ptOf m c n).Z := by
  unfold ptOf
  rfl
theorem pt_starts (n : ℕ) : (ptOf m c n).G = starts (batch m c) :=
  (congrArg Pt.G (pt_mk n)).trans (ends_mk _ _ _ _ _ _)
theorem pt_seg (n : ℕ) : (ptOf m c n).seg = iblk m c 4 (tOf n) := rfl

/-- A row of point `n`'s block belongs to segment `s` when the batch says so. -/
theorem has_iff (hB : Sorted (batch m c)) {n r s : ℕ} (hr : 2000 * n + r < 50000) :
    (ptOf m c n).Has s r ↔ num (batch m c) (2000 * n + r) = s := by
  unfold Pt.Has
  rw [pt_t, pt_starts]
  exact (num_eq_iff hB hr s).symm

/-- A row's word spells segment `s` when the row's number is `s`. -/
theorem word_eq_iff (B : IVec S50000 32) (r : Fin 50000) {s : ℕ} (hs : s < 512) :
    B (ix1 r) = BitVec.ofNat 32 s ↔ num B r.val = s := by
  have en : num B r.val = (B (ix1 r)).toNat := by
    unfold num
    exact congrArg (fun q => (B (ix1 (n0 := 50000) q)).toNat) (Fin.ext (Nat.mod_eq_of_lt r.isLt))
  rw [en]
  constructor
  · intro h
    rw [h, BitVec.toNat_ofNat]
    exact Nat.mod_eq_of_lt (by omega)
  · intro h
    rw [← h]
    exact ((BitVec.ofNat_toNat 32 _).trans (BitVec.setWidth_eq _)).symm

/-- A grid point's description agrees with the batch: its block's words, its first and last segment, its segment starts. -/
theorem tied_of (hB : Sorted (batch m c)) {n : ℕ} (hn : n < 25) : (ptOf m c n).Tied where
  mono s := by
    rw [pt_starts]
    exact starts_mono _ (Nat.le_succ s)
  seg r s hs := by
    have hr := r.isLt
    have hi : 2000 * n + r.val < 50000 := by omega
    rw [has_iff hB hi]
    have e : (tOf n).val = n := Nat.mod_eq_of_lt hn
    have eb : (ptOf m c n).seg (ix2 r (0 : Fin 1)) = batch m c (ix1 (n0 := 50000) ⟨2000 * n + r.val, hi⟩) := by
      rw [pt_seg]
      refine (blk_seg m c (tOf n) r 0 (by rw [e]; exact hi)).trans (congrArg (batch m c) (congrArg ix1 (Fin.ext ?_)))
      show 2000 * (tOf n).val + r.val = _
      rw [e]
    rw [eb]
    exact word_eq_iff _ _ hs
  outside r s _ h := by
    have hr := r.isLt
    have hi : 2000 * n + r.val < 50000 := by omega
    have e := (has_iff hB hi).mp h
    have h1 := hB.mono (2000 * n) (2000 * n + r.val) (by omega) hi
    have h2 := hB.mono (2000 * n + r.val) (2000 * n + 1999) (by omega) (by omega)
    rw [pt_a, pt_b]
    omega

/-- The block's row `r` is row `2000 * n + r` of the batch. -/
theorem zAt_eq {n : ℕ} (hn : n < 25) (r : Fin 2000) (d : Fin 1024) (hi : 2000 * n + r.val < 50000) :
    (ptOf m c n).zAt r d = rowVal m c ⟨2000 * n + r.val, hi⟩ d := by
  have e : (tOf n).val = n := Nat.mod_eq_of_lt hn
  unfold Pt.zAt
  dsimp only [ptOf]
  rw [rows2000_put, blk_b1, pay16_apply, blk_w1, blk_w2]
  refine second_congr _ _ _ _ _ _ _ (fun j => ?_) d
  refine (blk_x m c (tOf n) r j (by rw [e]; exact hi)).trans
    (congrArg (fun q => m ((c : Thread nD τ).loc main_arg0) (ix2 (n0 := 50000) q j)) (Fin.ext ?_))
  show 2000 * (tOf n).val + r.val = _
  rw [e]

/-- One more block of rows. -/
theorem largest_succ (hB : Sorted (batch m c)) {n : ℕ} (hn : n < 25) (s : ℕ) (d : Fin 1024) :
    max (largest m c n s d) ((ptOf m c n).full s d) = largest m c (n + 1) s d := by
  refine le_antisymm (max_le (Finset.sup_mono_fun fun r _ => ?_) (Finset.sup_le fun r _ => ?_)) (Finset.sup_le fun r _ => ?_)
  · split
    · rename_i h
      rw [if_pos ⟨by omega, h.2⟩]
    · exact bot_le
  · split
    · rename_i h
      have hr := r.isLt
      have hi : 2000 * n + r.val < 50000 := by omega
      refine le_trans (le_of_eq ?_) (Finset.le_sup (Finset.mem_univ (⟨2000 * n + r.val, hi⟩ : Fin 50000)))
      rw [if_pos ⟨by show 2000 * n + r.val < 2000 * (n + 1); omega, (has_iff hB hi).mp h⟩, zAt_eq hn r d hi]
    · exact bot_le
  · split
    · rename_i h
      obtain ⟨h1, h2⟩ := h
      by_cases hr : r.val < 2000 * n
      · refine le_trans (le_trans (le_of_eq ?_) (Finset.le_sup (Finset.mem_univ r))) (le_max_left _ _)
        rw [if_pos ⟨hr, h2⟩]
      · have e : 2000 * n + (r.val - 2000 * n) = r.val := by omega
        have hi : 2000 * n + (r.val - 2000 * n) < 50000 := by rw [e]; exact r.isLt
        refine le_trans (le_trans (le_of_eq ?_) (Finset.le_sup (Finset.mem_univ (⟨r.val - 2000 * n, by omega⟩ : Fin 2000))))
          (le_max_right _ _)
        rw [if_pos ((has_iff hB hi).mpr (by rw [e]; exact h2)), zAt_eq hn _ d hi]
        exact congrArg (fun q => rowVal m c q d) (Fin.ext e.symm)
    · exact bot_le

/-- Before the first point there is nothing. -/
theorem largest_zero (s : ℕ) (d : Fin 1024) : largest m c 0 s d = ⊥ := by
  refine le_antisymm (Finset.sup_le fun r _ => ?_) bot_le
  rw [if_neg (by omega)]

/-- A segment after the block's first has no row before the block. -/
theorem largest_later (hB : Sorted (batch m c)) {n s : ℕ} (hn : n < 25) (hs : num (batch m c) (2000 * n) < s) (d : Fin 1024) :
    largest m c n s d = ⊥ := by
  refine le_antisymm (Finset.sup_le fun r _ => ?_) bot_le
  rw [if_neg]
  rintro ⟨h1, h2⟩
  have := hB.mono r.val (2000 * n) (by omega) (by omega)
  omega

/-- From the largest entries over the blocks before, a point merges its own block in. -/
theorem merged_eq (hB : Sorted (batch m c)) {n : ℕ} (hn : n < 25) (O : Vec Ideal S512x1024 .f32)
    (hO : ∀ s d, Pt.entry O s d = largest m c n s.val d) (s : Fin 512) (d : Fin 1024) :
    Pt.entry ((ptOf m c n).merged O) s d = largest m c (n + 1) s.val d := by
  rw [Pt.merged_apply (ok_of c hB hn) (tied_of hB hn) (fun s d h _ => by rw [hO]; exact largest_later hB hn h d) s d]
  unfold Pt.goal
  rw [hO]
  exact largest_succ hB hn s.val d

/-- The cleared result. -/
theorem cleared (s : Fin 512) (d : Fin 1024) : Pt.entry (k0_pay15 (F := Ideal)) s d = largest m c 0 s.val d := by
  rw [largest_zero]
  exact bits_bot

/-- After every point but the last the result holds the largest entries so far. -/
theorem acc_eq (hB : Sorted (batch m c)) : ∀ n, n < 24 → ∀ s d, Pt.entry (acc m c n) s d = largest m c (n + 1) s.val d
  | 0, _, s, d => by
    have e : acc m c 0 = (ptOf m c 0).merged (k0_pay15 (F := Ideal)) := by
      show (ptOf m c 0).out _ _ = _
      unfold Pt.out
      rw [pt_t, if_pos rfl, if_neg (by omega)]
    rw [e]
    exact merged_eq hB (by omega) _ cleared s d
  | n + 1, hn, s, d => by
    have e : acc m c (n + 1) = (ptOf m c (n + 1)).merged (acc m c n) := by
      show (ptOf m c (n + 1)).out _ _ = _
      unfold Pt.out
      rw [pt_t, if_neg (by omega), if_neg (by omega)]
    rw [e]
    exact merged_eq hB (by omega) _ (fun s d => acc_eq hB n (by omega) s d) s d

/-- After the last point it holds the second layer's activation of the largest entries over all rows. -/
theorem acc_last (hB : Sorted (batch m c)) (s : Fin 512) (d : Fin 1024) :
    Pt.entry (acc m c 24) s d = act (largest m c 25 s.val d + m ((c : Thread nD τ).loc main_arg6) (ix1 d)) := by
  have e : acc m c 24 = k0_pay6 ((ptOf m c 24).merged (acc m c 23)) (iblk m c 8 (tOf 24)) := by
    show (ptOf m c 24).out _ _ = _
    unfold Pt.out
    rw [pt_t, if_pos rfl]
    exact congrArg (fun O => k0_pay6 ((ptOf m c 24).merged O) (iblk m c 8 (tOf 24))) (if_neg (by omega))
  rw [e, blk_b2]
  refine (pay6_apply _ _ s d).trans (congrArg (fun z : EReal => act (z + _)) ?_)
  exact merged_eq hB (by omega) _ (fun s d => acc_eq hB 23 (by omega) s d) s d

/-- The same with the offset and the activation taken row by row: both keep the order, and the least element. -/
theorem acc_rows (hB : Sorted (batch m c)) (s : Fin 512) (d : Fin 1024) :
    Pt.entry (acc m c 24) s d = (Finset.univ : Finset (Fin 50000)).sup fun r =>
      if batch m c (ix1 r) = BitVec.ofNat 32 s.val then act (rowVal m c r d + m ((c : Thread nD τ).loc main_arg6) (ix1 d)) else ⊥ := by
  have hmono : Monotone fun x : EReal => act (x + m ((c : Thread nD τ).loc main_arg6) (ix1 d)) :=
    fun _ _ h => act_mono (add_le_add_left h _)
  have hbot : act ((⊥ : EReal) + m ((c : Thread nD τ).loc main_arg6) (ix1 d)) = ⊥ :=
    (congrArg act (EReal.bot_add _)).trans act_bot
  rw [acc_last hB]
  refine (sup_map _ _ (fun x : EReal => act (x + m ((c : Thread nD τ).loc main_arg6) (ix1 d))) hmono hbot).trans
    (Finset.sup_congr rfl fun r _ => ?_)
  have hr := r.isLt
  by_cases h : num (batch m c) r.val = s.val
  · rw [if_pos ⟨by omega, h⟩, if_pos ((word_eq_iff _ r s.isLt).mpr h)]
  · rw [if_neg fun q => h q.2, if_neg fun q => h ((word_eq_iff _ r s.isLt).mp q)]
    exact hbot

end Cert.SegPool

end
-- ==== Proof.Final.lean ====
/-
  What the kernel's run leaves in its three results: the last grid point's result, and what the host operations after the
  region write.
-/
module

public import proofs.«01_k».proof.Proof.Run

@[expose] public section

noncomputable section

namespace Cert.SegPool

open Cert.KernelIdeal Cert.KernelIdeal.Gen
open Idealize.ShloMosaic Idealize.ShloMosaic.TcCoe Idealize.SL.Sem

variable {F : FTy → Type} [FloatOps F]
variable (m : (l : Loc nD τ sig) → Buf (Elt F) l) (ρ : Dev nD → PrngReg)

/-- The last grid point writes the whole result back, and no other point writes. -/
theorem result_array (c : Dev nD) : (dats m 0 c).arrAt 9 cfg0.N = acc m c 24 := by
  refine (dats m 0 c).arrAt_eq_of_after_last 9 (tOf 24) (by decide +kernel) _ fun j => ?_
  rw [after0_9]
  rfl

/-- The host operations after the region write the second result's zeros and the third result's segment numbers. -/
theorem host_tail (V : Valuation τ sig (Elt F)) :
    StableHlo.after hostOps1 V (Proc.devRef .tc main_v14) = broadcastInDim S512x3 ![] bcast_S_S512x3 (constant S_ .f32 0x00000000#32)
      ∧ StableHlo.after hostOps1 V (Proc.devRef .tc main_v15) = iotaInDim S512 32 0 := by
  constructor
  · simp only [hostOps1]
    after_results_simp
  · simp only [hostOps1]
    after_results_simp

/-- The results after the run. -/
theorem results (hB : ∀ c, Sorted (batch m c)) : θ_run defs (onTc (τ := τ) (main (F := F))) ⟨m, fun _ => 0, ρ⟩ (fun r => ∀ c : Dev nD,
      r.2.mem ((c.tc : Thread nD τ).loc main_v13) = acc m c 24
      ∧ r.2.mem ((c.tc : Thread nD τ).loc main_v14) = broadcastInDim S512x3 ![] bcast_S_S512x3 (constant S_ .f32 0x00000000#32)
      ∧ r.2.mem ((c.tc : Thread nD τ).loc main_v15) = iotaInDim S512 32 0) :=
  (θ_run defs _ _).mono (fun _ h c => ⟨((h c).1 9).trans (result_array m c),
      ((h c).2 main_v14 (Pipeline.mem_restRefs_of main_v14 (by decide) (by decide))).trans (host_tail _).1,
      ((h c).2 main_v15 (Pipeline.mem_restRefs_of main_v15 (by decide) (by decide))).trans (host_tail _).2⟩) (run_main m ρ hB)

end Cert.SegPool

end
-- ==== Proof.RefValue.lean ====
/-
  The reference's first result over the extended reals: for each segment and column, the largest activated second layer entry
  over the rows of that segment.
-/
module

public import proofs.«01_k».proof.Proof.Gen.ReferenceIdeal.Read
public import proofs.«01_k».proof.Proof.Network

@[expose] public section

noncomputable section

namespace Cert.SegPool

open Cert.ReferenceIdeal Cert.ReferenceIdeal.Gen Cert.ReferenceIdeal.Read
open Idealize.ShloMosaic

/-- A choice by a bit made from a truth value. -/
theorem select_ofBool {α : Type} (p : Bool) (x y : α) : Scalar.select (BitVec.ofBool p) x y = if p = true then x else y := by
  cases p <;> rfl

/-- The activation by cases on the sign, as the reference writes it. -/
theorem act_select (x : Ideal .f32) :
    (Scalar.select (FloatOps.cmpf .ogt x (FloatOps.ofBits .f32 0x00000000#32)) x
      (FloatOps.mulf (FloatOps.ofBits .f32 0x3C23D70A#32) x) : EReal) = act x := by
  refine (select_ofBool (decide (Ideal.ofBits .f32 0x00000000#32 < x)) _ _).trans ?_
  rw [bits_zero, act_eq]
  simp only [decide_eq_true_eq]
  rfl

variable (x0 : FVec Ideal S50000x256 .f32) (x2 : IVec S50000 32) (x3 : FVec Ideal S256x512 .f32) (x4 : FVec Ideal S512 .f32)
  (x5 : FVec Ideal S512x1024 .f32) (x6 : FVec Ideal S1024 .f32)

/-- The hidden layer before its activation. -/
theorem ref_sum (r : Fin 50000) (k : Fin 512) :
    (val_main_v3 (F := Ideal) x0 x3 x4 (ix2 r k) : EReal) = (∑ j : Fin 256, (x0 (ix2 r j) : EReal) * x3 (ix2 j k)) + x4 (ix1 k) := by
  rw [val_main_v3_apply, val_main_v0_apply, val_main_v2_apply, val_main_v1_apply]
  refine congrArg₂ (· + · : EReal → EReal → EReal) (Finset.sum_congr rfl fun j _ => ?_) (congrArg x4 ?_)
  · refine congrArg₂ (· * · : EReal → EReal → EReal) (congrArg x0 ?_) (congrArg x3 ?_) <;> (funext a; fin_cases a <;> rfl)
  · funext a; fin_cases a; rfl

theorem ref_hidden (r : Fin 50000) (k : Fin 512) :
    (val_main_v8 (F := Ideal) x0 x3 x4 (ix2 r k) : EReal) = hidden (n := 50000) x0 x3 x4 r k := by
  rw [val_main_v8_apply, val_main_v5_apply, val_main_v7_apply, val_main_v4_apply, val_main_v6_apply, val_main_cst_apply,
    val_main_cst_0_apply]
  refine (act_select _).trans (congrArg act ?_)
  exact ref_sum x0 x3 x4 r k

/-- The second layer before its activation. -/
theorem ref_second (r : Fin 50000) (d : Fin 1024) :
    (val_main_v12 (F := Ideal) x0 x3 x4 x5 x6 (ix2 r d) : EReal) = second (n := 50000) x0 x3 x4 x5 r d + x6 (ix1 d) := by
  rw [val_main_v12_apply, val_main_v9_apply, val_main_v11_apply, val_main_v10_apply]
  refine congrArg₂ (· + · : EReal → EReal → EReal) (Finset.sum_congr rfl fun k _ => ?_) (congrArg x6 ?_)
  · refine congrArg₂ (· * · : EReal → EReal → EReal) (Eq.trans (congrArg _ ?_) (ref_hidden x0 x3 x4 r k)) (congrArg x5 ?_) <;>
      (funext a; fin_cases a <;> rfl)
  · funext a; fin_cases a; rfl

theorem ref_row (r : Fin 50000) (d : Fin 1024) :
    (val_main_v17 (F := Ideal) x0 x3 x4 x5 x6 (ix2 r d) : EReal) = act (second (n := 50000) x0 x3 x4 x5 r d + x6 (ix1 d)) := by
  rw [val_main_v17_apply, val_main_v14_apply, val_main_v16_apply, val_main_v13_apply, val_main_v15_apply, val_main_cst_1_apply,
    val_main_cst_2_apply]
  refine (act_select _).trans (congrArg act ?_)
  exact ref_second x0 x3 x4 x5 x6 r d

/-- A row belongs to segment `s` when its word is `s`. -/
theorem ref_mine (r : Fin 50000) (s : Fin 512) :
    val_main_v23 (F := Ideal) x2 (ix2 r s) = BitVec.ofBool (x2 (ix1 r) == BitVec.ofNat 32 s.val) := by
  rw [val_main_v23_apply, val_main_v21_apply, val_main_v18_apply, val_main_v22_apply, val_main_v20_apply, val_main_v19_apply]
  refine congrArg (fun w => BitVec.ofBool (x2 w == BitVec.ofNat 32 s.val)) ?_
  funext a; fin_cases a; rfl

/-- The index of row `r`, segment `s`, column `d`. -/
def cell {n : ℕ} (r : Fin n) (s : Fin 512) (d : Fin 1024) : (⟨3, ![n, 512, 1024]⟩ : Shape).Idx := fun a => match a with
  | ⟨0, _⟩ => r
  | ⟨1, _⟩ => s
  | ⟨2, _⟩ => d

/-- The largest entry along the first axis, started from minus infinity. -/
theorem ref_largest {n : ℕ} (x : (⟨3, ![n, 512, 1024]⟩ : Shape).Idx → EReal) (z : S_.Idx → EReal)
    (h' : (⟨3, ![n, 512, 1024]⟩ : Shape).ReducesTo [0] S512x1024) (h : (⟨3, ![n, 512, 1024]⟩ : Shape).Reduces [0] S512x1024)
    (hu : 0 < S_.numel) (hz : z (Shape.Idx.first hu) = ⊥) (s : Fin 512) (d : Fin 1024) :
    Host.reduce (max : EReal → EReal → EReal) x z h' hu (ix2 s d) = (Finset.univ : Finset (Fin n)).sup fun r => x (cell r s d) := by
  refine (Host.reduce_eq_fold_single max x z h' h hu (ix2 s d)).trans ?_
  have e1 : x ∘ h.lift (ix2 s d) = fun r : Fin n => x (cell r s d) := by
    funext r
    refine congrArg x (funext fun a => Fin.ext ?_)
    fin_cases a <;> simp [Shape.Reduces.lift_val, Shape.Reduces.liftVal, cell]
  rw [e1, hz]
  rfl

/-- What the reference takes the maximum of. -/
theorem ref_masked (r : Fin 50000) (s : Fin 512) (d : Fin 1024) :
    (val_main_v26 (F := Ideal) x0 x2 x3 x4 x5 x6 (cell r s d) : EReal)
      = if x2 (ix1 r) = BitVec.ofNat 32 s.val then act (second (n := 50000) x0 x3 x4 x5 r d + x6 (ix1 d)) else ⊥ := by
  rw [val_main_v26_apply, val_main_call2_v1_apply, val_main_v24_apply, val_main_call2_v2_apply, val_main_v25_apply,
    val_main_call2_v3_apply, val_main_call2_v0_apply, val_main_cst_3_apply]
  have e1 : idx_main_v24 (idx_main_call2_v1 (cell r s d)) = ix2 r s := by funext a; fin_cases a <;> rfl
  have e2 : idx_main_v25 (idx_main_call2_v2 (cell r s d)) = ix2 r d := by funext a; fin_cases a <;> rfl
  rw [e1, e2, ref_mine, ref_row]
  refine (select_ofBool _ _ _).trans ?_
  simp only [beq_iff_eq]
  exact congrArg (fun z : EReal =>
    if x2 (ix1 r) = BitVec.ofNat 32 s.val then act (second (n := 50000) x0 x3 x4 x5 r d + x6 (ix1 d)) else z) bits_bot

/-- The reference's first result at segment `s`, column `d`. -/
theorem ref_apply (s : Fin 512) (d : Fin 1024) :
    (val_main_v27 (F := Ideal) x0 x2 x3 x4 x5 x6 (ix2 s d) : EReal)
      = (Finset.univ : Finset (Fin 50000)).sup fun r =>
          if x2 (ix1 r) = BitVec.ofNat 32 s.val then act (second (n := 50000) x0 x3 x4 x5 r d + x6 (ix1 d)) else ⊥ := by
  have e0 : val_main_cst_4 (F := Ideal) (Shape.Idx.first h_S_) = (⊥ : EReal) := bits_bot
  unfold val_main_v27
  refine (ref_largest _ _ reducesTo_S50000x512x1024_S512x1024_d0 (by decide) h_S_ e0 s d).trans (Finset.sup_congr rfl fun r _ => ?_)
  exact ref_masked x0 x2 x3 x4 x5 x6 r s d

end Cert.SegPool

end
-- ==== Proof.Equal.lean ====
/-
  The value claim: over the extended reals, from a sorted batch, the kernel and the reference end with equal results, all
  three of them.
-/
module

public import proofs.«01_k».proof.Proof.Frames
public import proofs.«01_k».proof.Proof.Accum
public import proofs.«01_k».proof.Proof.Final
public import proofs.«01_k».proof.Proof.RefValue

@[expose] public section

noncomputable section

namespace Cert.SegPool

open Idealize.ShloMosaic Idealize.ShloMosaic.TcCoe Idealize.SL.Sem

/-- The reference's first result, from the kernel's arguments, is what the kernel's last grid point leaves. -/
theorem pooled_eq (m : (ℓ : Loc Cert.KernelIdeal.nD Cert.KernelIdeal.τ Cert.KernelIdeal.sig) → Buf (Elt Ideal) ℓ)
    (c : Dev Cert.KernelIdeal.nD) (hB : Sorted (batch m c)) :
    Cert.ReferenceIdeal.Read.val_main_v27 (F := Ideal) (m ((c.tc : Thread Cert.KernelIdeal.nD Cert.KernelIdeal.τ).loc Cert.KernelIdeal.main_arg0))
      (batch m c) (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = acc m c 24 := by
  funext j
  have e : j = ix2 (n0 := 512) (n1 := 1024) (j 0) (j 1) := by funext a; fin_cases a <;> rfl
  rw [e]
  exact (ref_apply _ _ _ _ _ _ (j 0) (j 1)).trans (acc_rows hB (j 0) (j 1)).symm

theorem algebraic : Cert.algebraic_KernelIdeal_ReferenceIdeal := fun m g m' g' hpre harg => by
  have hB := sorted_ideal m hpre
  refine ⟨fun c => acc m c 24,
    fun _ => broadcastInDim Cert.KernelIdeal.S512x3 ![] Cert.KernelIdeal.Gen.bcast_S_S512x3 (constant (F := Ideal) Cert.KernelIdeal.S_ .f32 0x00000000#32),
    fun _ => iotaInDim Cert.KernelIdeal.S512 32 0, ?_, ?_⟩
  · refine (θ_run _ _ _).mono (fun r h c => ?_) (θ_run_and (results (F := Ideal) m g hB) (frame (F := Ideal) m g hB))
    exact ⟨(h.1 c).1, (h.1 c).2.1, (h.1 c).2.2, h.2.1 c⟩
  · refine (θ_run _ _ _).mono (fun r h c => ?_) (Cert.ReferenceIdeal.Value.run (F := Ideal) m' g')
    refine ⟨(h c).1.trans ?_, (h c).2⟩
    obtain ⟨h0, _, h2, h3, h4, h5, h6⟩ := harg c
    rw [Cert.ReferenceIdeal.Read.val_main_v27_eq, h0, h2, h3, h4, h5, h6]
    exact pooled_eq m c (hB c)

end Cert.SegPool

end
-- ==== Proof.lean ====
/-
  The certificate of the fused node network and per-segment maximum.
-/
module

public import proofs.«01_k».proof.Proof.Frames
public import proofs.«01_k».proof.Proof.Equal

@[expose] public section

noncomputable section

namespace Cert.Proof

open Cert.SegPool

theorem claim : Cert.Claim :=
  ⟨Cert.Kernel.Gen.facts, Cert.KernelIdeal.Gen.facts, Cert.ReferenceIdeal.Gen.facts, Cert.Pre_sorted_batch.Gen.facts,
    frame_kernel, frame_kernelIdeal, frame_reference, frame_reference_pre, trivial, algebraic⟩

end Cert.Proof

end
